-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![4096, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S16x16x256 : Shape := ⟨3, ![16, 16, 256]⟩
abbrev S16 : Shape := ⟨1, ![16]⟩
abbrev S_ : Shape := ⟨0, ![]⟩
abbrev S1 : Shape := ⟨1, ![1]⟩
abbrev S1x16x256 : Shape := ⟨3, ![1, 16, 256]⟩
abbrev S16x256 : Shape := ⟨2, ![16, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S16x16x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c14_i32_136 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v199 : BitVec 32 := Scalar.addi v2 c14_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  ![v209.toNat]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_146 : BitVec 32 := 0#32
  let c0_i32_147 : BitVec 32 := 0#32
  ![v2.toNat, 0, 0]
def k0_off4 (d0 : Dev nD) (c14_i32_136 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v199 : BitVec 32 := Scalar.addi v2 c14_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  let c16_i32_143 : BitVec 32 := 16#32
  let v210 : BitVec 32 := Scalar.muli v209 c16_i32_143
  let c0_i32_148 : BitVec 32 := 0#32
  ![v210.toNat, 0]
def k0_dev16 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_136 : BitVec 32 := 14#32
  let v199 : BitVec 32 := Scalar.addi v2 c14_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  let c1_i32_144 : BitVec 32 := 1#32
  let v211 : BitVec 32 := Scalar.muli v209 c1_i32_144
  let v212 : BitVec 32 := Scalar.addi c0_i32_145 v211
  v212.toNat
def k0_dev17 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_149 : BitVec 32 := 10#32
  let v220 : BitVec 32 := Scalar.addi v2 c10_i32_149
  let c16_i32_150 : BitVec 32 := 16#32
  let c0_i32_151 : BitVec 32 := 0#32
  let v221 : BitVec 1 := Scalar.cmpi .eq c16_i32_150 c0_i32_151
  let c1_i32_152 : BitVec 32 := 1#32
  let v222 : BitVec 32 := Scalar.select v221 c1_i32_152 c16_i32_150
  let v223 : BitVec 32 := Scalar.remsi v220 v222
  let c0_i32_154 : BitVec 32 := 0#32
  let v225 : BitVec 1 := Scalar.cmpi .slt v223 c0_i32_154
  let c0_i32_155 : BitVec 32 := 0#32
  let v226 : BitVec 1 := Scalar.cmpi .slt v222 c0_i32_155
  let v227 : BitVec 1 := Scalar.xori v225 v226
  let c0_i32_153 : BitVec 32 := 0#32
  let v224 : BitVec 1 := Scalar.cmpi .ne v223 c0_i32_153
  let v228 : BitVec 1 := Scalar.andi v227 v224
  let v229 : BitVec 32 := Scalar.addi v223 v222
  let v230 : BitVec 32 := Scalar.select v228 v229 v223
  let c1_i32_157 : BitVec 32 := 1#32
  let v232 : BitVec 32 := Scalar.muli v230 c1_i32_157
  let v233 : BitVec 32 := Scalar.addi c0_i32_158 v232
  v233.toNat
def k0_dev18 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_162 : BitVec 32 := 13#32
  let v241 : BitVec 32 := Scalar.addi v2 c13_i32_162
  let c16_i32_163 : BitVec 32 := 16#32
  let c0_i32_164 : BitVec 32 := 0#32
  let v242 : BitVec 1 := Scalar.cmpi .eq c16_i32_163 c0_i32_164
  let c1_i32_165 : BitVec 32 := 1#32
  let v243 : BitVec 32 := Scalar.select v242 c1_i32_165 c16_i32_163
  let v244 : BitVec 32 := Scalar.remsi v241 v243
  let c0_i32_167 : BitVec 32 := 0#32
  let v246 : BitVec 1 := Scalar.cmpi .slt v244 c0_i32_167
  let c0_i32_168 : BitVec 32 := 0#32
  let v247 : BitVec 1 := Scalar.cmpi .slt v243 c0_i32_168
  let v248 : BitVec 1 := Scalar.xori v246 v247
  let c0_i32_166 : BitVec 32 := 0#32
  let v245 : BitVec 1 := Scalar.cmpi .ne v244 c0_i32_166
  let v249 : BitVec 1 := Scalar.andi v248 v245
  let v250 : BitVec 32 := Scalar.addi v244 v243
  let v251 : BitVec 32 := Scalar.select v249 v250 v244
  let c1_i32_170 : BitVec 32 := 1#32
  let v253 : BitVec 32 := Scalar.muli v251 c1_i32_170
  let v254 : BitVec 32 := Scalar.addi c0_i32_171 v253
  v254.toNat
def k0_dev19 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_175 : BitVec 32 := 15#32
  let v262 : BitVec 32 := Scalar.addi v2 c15_i32_175
  let c16_i32_176 : BitVec 32 := 16#32
  let c0_i32_177 : BitVec 32 := 0#32
  let v263 : BitVec 1 := Scalar.cmpi .eq c16_i32_176 c0_i32_177
  let c1_i32_178 : BitVec 32 := 1#32
  let v264 : BitVec 32 := Scalar.select v263 c1_i32_178 c16_i32_176
  let v265 : BitVec 32 := Scalar.remsi v262 v264
  let c0_i32_180 : BitVec 32 := 0#32
  let v267 : BitVec 1 := Scalar.cmpi .slt v265 c0_i32_180
  let c0_i32_181 : BitVec 32 := 0#32
  let v268 : BitVec 1 := Scalar.cmpi .slt v264 c0_i32_181
  let v269 : BitVec 1 := Scalar.xori v267 v268
  let c0_i32_179 : BitVec 32 := 0#32
  let v266 : BitVec 1 := Scalar.cmpi .ne v265 c0_i32_179
  let v270 : BitVec 1 := Scalar.andi v269 v266
  let v271 : BitVec 32 := Scalar.addi v265 v264
  let v272 : BitVec 32 := Scalar.select v270 v271 v265
  let c1_i32_183 : BitVec 32 := 1#32
  let v274 : BitVec 32 := Scalar.muli v272 c1_i32_183
  let v275 : BitVec 32 := Scalar.addi c0_i32_184 v274
  v275.toNat
def k0_dev20 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_188 : BitVec 32 := 6#32
  let v283 : BitVec 32 := Scalar.addi v2 c6_i32_188
  let c16_i32_189 : BitVec 32 := 16#32
  let c0_i32_190 : BitVec 32 := 0#32
  let v284 : BitVec 1 := Scalar.cmpi .eq c16_i32_189 c0_i32_190
  let c1_i32_191 : BitVec 32 := 1#32
  let v285 : BitVec 32 := Scalar.select v284 c1_i32_191 c16_i32_189
  let v286 : BitVec 32 := Scalar.remsi v283 v285
  let c0_i32_193 : BitVec 32 := 0#32
  let v288 : BitVec 1 := Scalar.cmpi .slt v286 c0_i32_193
  let c0_i32_194 : BitVec 32 := 0#32
  let v289 : BitVec 1 := Scalar.cmpi .slt v285 c0_i32_194
  let v290 : BitVec 1 := Scalar.xori v288 v289
  let c0_i32_192 : BitVec 32 := 0#32
  let v287 : BitVec 1 := Scalar.cmpi .ne v286 c0_i32_192
  let v291 : BitVec 1 := Scalar.andi v290 v287
  let v292 : BitVec 32 := Scalar.addi v286 v285
  let v293 : BitVec 32 := Scalar.select v291 v292 v286
  let c1_i32_196 : BitVec 32 := 1#32
  let v295 : BitVec 32 := Scalar.muli v293 c1_i32_196
  let v296 : BitVec 32 := Scalar.addi c0_i32_197 v295
  v296.toNat
def k0_dev21 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_201 : BitVec 32 := 9#32
  let v304 : BitVec 32 := Scalar.addi v2 c9_i32_201
  let c16_i32_202 : BitVec 32 := 16#32
  let c0_i32_203 : BitVec 32 := 0#32
  let v305 : BitVec 1 := Scalar.cmpi .eq c16_i32_202 c0_i32_203
  let c1_i32_204 : BitVec 32 := 1#32
  let v306 : BitVec 32 := Scalar.select v305 c1_i32_204 c16_i32_202
  let v307 : BitVec 32 := Scalar.remsi v304 v306
  let c0_i32_206 : BitVec 32 := 0#32
  let v309 : BitVec 1 := Scalar.cmpi .slt v307 c0_i32_206
  let c0_i32_207 : BitVec 32 := 0#32
  let v310 : BitVec 1 := Scalar.cmpi .slt v306 c0_i32_207
  let v311 : BitVec 1 := Scalar.xori v309 v310
  let c0_i32_205 : BitVec 32 := 0#32
  let v308 : BitVec 1 := Scalar.cmpi .ne v307 c0_i32_205
  let v312 : BitVec 1 := Scalar.andi v311 v308
  let v313 : BitVec 32 := Scalar.addi v307 v306
  let v314 : BitVec 32 := Scalar.select v312 v313 v307
  let c1_i32_209 : BitVec 32 := 1#32
  let v316 : BitVec 32 := Scalar.muli v314 c1_i32_209
  let v317 : BitVec 32 := Scalar.addi c0_i32_210 v316
  v317.toNat
def k0_dev22 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_214 : BitVec 32 := 11#32
  let v325 : BitVec 32 := Scalar.addi v2 c11_i32_214
  let c16_i32_215 : BitVec 32 := 16#32
  let c0_i32_216 : BitVec 32 := 0#32
  let v326 : BitVec 1 := Scalar.cmpi .eq c16_i32_215 c0_i32_216
  let c1_i32_217 : BitVec 32 := 1#32
  let v327 : BitVec 32 := Scalar.select v326 c1_i32_217 c16_i32_215
  let v328 : BitVec 32 := Scalar.remsi v325 v327
  let c0_i32_219 : BitVec 32 := 0#32
  let v330 : BitVec 1 := Scalar.cmpi .slt v328 c0_i32_219
  let c0_i32_220 : BitVec 32 := 0#32
  let v331 : BitVec 1 := Scalar.cmpi .slt v327 c0_i32_220
  let v332 : BitVec 1 := Scalar.xori v330 v331
  let c0_i32_218 : BitVec 32 := 0#32
  let v329 : BitVec 1 := Scalar.cmpi .ne v328 c0_i32_218
  let v333 : BitVec 1 := Scalar.andi v332 v329
  let v334 : BitVec 32 := Scalar.addi v328 v327
  let v335 : BitVec 32 := Scalar.select v333 v334 v328
  let c1_i32_222 : BitVec 32 := 1#32
  let v337 : BitVec 32 := Scalar.muli v335 c1_i32_222
  let v338 : BitVec 32 := Scalar.addi c0_i32_223 v337
  v338.toNat
def k0_dev23 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_227 : BitVec 32 := 12#32
  let v346 : BitVec 32 := Scalar.addi v2 c12_i32_227
  let c16_i32_228 : BitVec 32 := 16#32
  let c0_i32_229 : BitVec 32 := 0#32
  let v347 : BitVec 1 := Scalar.cmpi .eq c16_i32_228 c0_i32_229
  let c1_i32_230 : BitVec 32 := 1#32
  let v348 : BitVec 32 := Scalar.select v347 c1_i32_230 c16_i32_228
  let v349 : BitVec 32 := Scalar.remsi v346 v348
  let c0_i32_232 : BitVec 32 := 0#32
  let v351 : BitVec 1 := Scalar.cmpi .slt v349 c0_i32_232
  let c0_i32_233 : BitVec 32 := 0#32
  let v352 : BitVec 1 := Scalar.cmpi .slt v348 c0_i32_233
  let v353 : BitVec 1 := Scalar.xori v351 v352
  let c0_i32_231 : BitVec 32 := 0#32
  let v350 : BitVec 1 := Scalar.cmpi .ne v349 c0_i32_231
  let v354 : BitVec 1 := Scalar.andi v353 v350
  let v355 : BitVec 32 := Scalar.addi v349 v348
  let v356 : BitVec 32 := Scalar.select v354 v355 v349
  let c1_i32_235 : BitVec 32 := 1#32
  let v358 : BitVec 32 := Scalar.muli v356 c1_i32_235
  let v359 : BitVec 32 := Scalar.addi c0_i32_236 v358
  v359.toNat
def k0_dev24 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_240 : BitVec 32 := 2#32
  let v367 : BitVec 32 := Scalar.addi v2 c2_i32_240
  let c16_i32_241 : BitVec 32 := 16#32
  let c0_i32_242 : BitVec 32 := 0#32
  let v368 : BitVec 1 := Scalar.cmpi .eq c16_i32_241 c0_i32_242
  let c1_i32_243 : BitVec 32 := 1#32
  let v369 : BitVec 32 := Scalar.select v368 c1_i32_243 c16_i32_241
  let v370 : BitVec 32 := Scalar.remsi v367 v369
  let c0_i32_245 : BitVec 32 := 0#32
  let v372 : BitVec 1 := Scalar.cmpi .slt v370 c0_i32_245
  let c0_i32_246 : BitVec 32 := 0#32
  let v373 : BitVec 1 := Scalar.cmpi .slt v369 c0_i32_246
  let v374 : BitVec 1 := Scalar.xori v372 v373
  let c0_i32_244 : BitVec 32 := 0#32
  let v371 : BitVec 1 := Scalar.cmpi .ne v370 c0_i32_244
  let v375 : BitVec 1 := Scalar.andi v374 v371
  let v376 : BitVec 32 := Scalar.addi v370 v369
  let v377 : BitVec 32 := Scalar.select v375 v376 v370
  let c1_i32_248 : BitVec 32 := 1#32
  let v379 : BitVec 32 := Scalar.muli v377 c1_i32_248
  let v380 : BitVec 32 := Scalar.addi c0_i32_249 v379
  v380.toNat
def k0_dev25 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_253 : BitVec 32 := 5#32
  let v388 : BitVec 32 := Scalar.addi v2 c5_i32_253
  let c16_i32_254 : BitVec 32 := 16#32
  let c0_i32_255 : BitVec 32 := 0#32
  let v389 : BitVec 1 := Scalar.cmpi .eq c16_i32_254 c0_i32_255
  let c1_i32_256 : BitVec 32 := 1#32
  let v390 : BitVec 32 := Scalar.select v389 c1_i32_256 c16_i32_254
  let v391 : BitVec 32 := Scalar.remsi v388 v390
  let c0_i32_258 : BitVec 32 := 0#32
  let v393 : BitVec 1 := Scalar.cmpi .slt v391 c0_i32_258
  let c0_i32_259 : BitVec 32 := 0#32
  let v394 : BitVec 1 := Scalar.cmpi .slt v390 c0_i32_259
  let v395 : BitVec 1 := Scalar.xori v393 v394
  let c0_i32_257 : BitVec 32 := 0#32
  let v392 : BitVec 1 := Scalar.cmpi .ne v391 c0_i32_257
  let v396 : BitVec 1 := Scalar.andi v395 v392
  let v397 : BitVec 32 := Scalar.addi v391 v390
  let v398 : BitVec 32 := Scalar.select v396 v397 v391
  let c1_i32_261 : BitVec 32 := 1#32
  let v400 : BitVec 32 := Scalar.muli v398 c1_i32_261
  let v401 : BitVec 32 := Scalar.addi c0_i32_262 v400
  v401.toNat
def k0_dev26 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_266 : BitVec 32 := 7#32
  let v409 : BitVec 32 := Scalar.addi v2 c7_i32_266
  let c16_i32_267 : BitVec 32 := 16#32
  let c0_i32_268 : BitVec 32 := 0#32
  let v410 : BitVec 1 := Scalar.cmpi .eq c16_i32_267 c0_i32_268
  let c1_i32_269 : BitVec 32 := 1#32
  let v411 : BitVec 32 := Scalar.select v410 c1_i32_269 c16_i32_267
  let v412 : BitVec 32 := Scalar.remsi v409 v411
  let c0_i32_271 : BitVec 32 := 0#32
  let v414 : BitVec 1 := Scalar.cmpi .slt v412 c0_i32_271
  let c0_i32_272 : BitVec 32 := 0#32
  let v415 : BitVec 1 := Scalar.cmpi .slt v411 c0_i32_272
  let v416 : BitVec 1 := Scalar.xori v414 v415
  let c0_i32_270 : BitVec 32 := 0#32
  let v413 : BitVec 1 := Scalar.cmpi .ne v412 c0_i32_270
  let v417 : BitVec 1 := Scalar.andi v416 v413
  let v418 : BitVec 32 := Scalar.addi v412 v411
  let v419 : BitVec 32 := Scalar.select v417 v418 v412
  let c1_i32_274 : BitVec 32 := 1#32
  let v421 : BitVec 32 := Scalar.muli v419 c1_i32_274
  let v422 : BitVec 32 := Scalar.addi c0_i32_275 v421
  v422.toNat
def k0_dev27 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_279 : BitVec 32 := 8#32
  let v430 : BitVec 32 := Scalar.addi v2 c8_i32_279
  let c16_i32_280 : BitVec 32 := 16#32
  let c0_i32_281 : BitVec 32 := 0#32
  let v431 : BitVec 1 := Scalar.cmpi .eq c16_i32_280 c0_i32_281
  let c1_i32_282 : BitVec 32 := 1#32
  let v432 : BitVec 32 := Scalar.select v431 c1_i32_282 c16_i32_280
  let v433 : BitVec 32 := Scalar.remsi v430 v432
  let c0_i32_284 : BitVec 32 := 0#32
  let v435 : BitVec 1 := Scalar.cmpi .slt v433 c0_i32_284
  let c0_i32_285 : BitVec 32 := 0#32
  let v436 : BitVec 1 := Scalar.cmpi .slt v432 c0_i32_285
  let v437 : BitVec 1 := Scalar.xori v435 v436
  let c0_i32_283 : BitVec 32 := 0#32
  let v434 : BitVec 1 := Scalar.cmpi .ne v433 c0_i32_283
  let v438 : BitVec 1 := Scalar.andi v437 v434
  let v439 : BitVec 32 := Scalar.addi v433 v432
  let v440 : BitVec 32 := Scalar.select v438 v439 v433
  let c1_i32_287 : BitVec 32 := 1#32
  let v442 : BitVec 32 := Scalar.muli v440 c1_i32_287
  let v443 : BitVec 32 := Scalar.addi c0_i32_288 v442
  v443.toNat
def k0_dev28 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_292 : BitVec 32 := 1#32
  let v451 : BitVec 32 := Scalar.addi v2 c1_i32_292
  let c16_i32_293 : BitVec 32 := 16#32
  let c0_i32_294 : BitVec 32 := 0#32
  let v452 : BitVec 1 := Scalar.cmpi .eq c16_i32_293 c0_i32_294
  let c1_i32_295 : BitVec 32 := 1#32
  let v453 : BitVec 32 := Scalar.select v452 c1_i32_295 c16_i32_293
  let v454 : BitVec 32 := Scalar.remsi v451 v453
  let c0_i32_297 : BitVec 32 := 0#32
  let v456 : BitVec 1 := Scalar.cmpi .slt v454 c0_i32_297
  let c0_i32_298 : BitVec 32 := 0#32
  let v457 : BitVec 1 := Scalar.cmpi .slt v453 c0_i32_298
  let v458 : BitVec 1 := Scalar.xori v456 v457
  let c0_i32_296 : BitVec 32 := 0#32
  let v455 : BitVec 1 := Scalar.cmpi .ne v454 c0_i32_296
  let v459 : BitVec 1 := Scalar.andi v458 v455
  let v460 : BitVec 32 := Scalar.addi v454 v453
  let v461 : BitVec 32 := Scalar.select v459 v460 v454
  let c1_i32_300 : BitVec 32 := 1#32
  let v463 : BitVec 32 := Scalar.muli v461 c1_i32_300
  let v464 : BitVec 32 := Scalar.addi c0_i32_301 v463
  v464.toNat
def k0_dev29 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_305 : BitVec 32 := 3#32
  let v472 : BitVec 32 := Scalar.addi v2 c3_i32_305
  let c16_i32_306 : BitVec 32 := 16#32
  let c0_i32_307 : BitVec 32 := 0#32
  let v473 : BitVec 1 := Scalar.cmpi .eq c16_i32_306 c0_i32_307
  let c1_i32_308 : BitVec 32 := 1#32
  let v474 : BitVec 32 := Scalar.select v473 c1_i32_308 c16_i32_306
  let v475 : BitVec 32 := Scalar.remsi v472 v474
  let c0_i32_310 : BitVec 32 := 0#32
  let v477 : BitVec 1 := Scalar.cmpi .slt v475 c0_i32_310
  let c0_i32_311 : BitVec 32 := 0#32
  let v478 : BitVec 1 := Scalar.cmpi .slt v474 c0_i32_311
  let v479 : BitVec 1 := Scalar.xori v477 v478
  let c0_i32_309 : BitVec 32 := 0#32
  let v476 : BitVec 1 := Scalar.cmpi .ne v475 c0_i32_309
  let v480 : BitVec 1 := Scalar.andi v479 v476
  let v481 : BitVec 32 := Scalar.addi v475 v474
  let v482 : BitVec 32 := Scalar.select v480 v481 v475
  let c1_i32_313 : BitVec 32 := 1#32
  let v484 : BitVec 32 := Scalar.muli v482 c1_i32_313
  let v485 : BitVec 32 := Scalar.addi c0_i32_314 v484
  v485.toNat
def k0_dev30 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_318 : BitVec 32 := 4#32
  let v493 : BitVec 32 := Scalar.addi v2 c4_i32_318
  let c16_i32_319 : BitVec 32 := 16#32
  let c0_i32_320 : BitVec 32 := 0#32
  let v494 : BitVec 1 := Scalar.cmpi .eq c16_i32_319 c0_i32_320
  let c1_i32_321 : BitVec 32 := 1#32
  let v495 : BitVec 32 := Scalar.select v494 c1_i32_321 c16_i32_319
  let v496 : BitVec 32 := Scalar.remsi v493 v495
  let c0_i32_323 : BitVec 32 := 0#32
  let v498 : BitVec 1 := Scalar.cmpi .slt v496 c0_i32_323
  let c0_i32_324 : BitVec 32 := 0#32
  let v499 : BitVec 1 := Scalar.cmpi .slt v495 c0_i32_324
  let v500 : BitVec 1 := Scalar.xori v498 v499
  let c0_i32_322 : BitVec 32 := 0#32
  let v497 : BitVec 1 := Scalar.cmpi .ne v496 c0_i32_322
  let v501 : BitVec 1 := Scalar.andi v500 v497
  let v502 : BitVec 32 := Scalar.addi v496 v495
  let v503 : BitVec 32 := Scalar.select v501 v502 v496
  let c1_i32_326 : BitVec 32 := 1#32
  let v505 : BitVec 32 := Scalar.muli v503 c1_i32_326
  let v506 : BitVec 32 := Scalar.addi c0_i32_327 v505
  v506.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_331 : BitVec 32 := 16#32
  let v514 : BitVec 32 := Scalar.muli v2 c16_i32_331
  let v515 : Index := Scalar.indexCast v514
  let c0 : Index := 0#32
  ![v515.toNat, 0]
def k0_off6 (d0 : Dev nD) (c1_i32_332 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_332
  let c16_i32_333 : BitVec 32 := 16#32
  let c0_i32_334 : BitVec 32 := 0#32
  let v519 : BitVec 1 := Scalar.cmpi .eq c16_i32_333 c0_i32_334
  let c1_i32_335 : BitVec 32 := 1#32
  let v520 : BitVec 32 := Scalar.select v519 c1_i32_335 c16_i32_333
  let v521 : BitVec 32 := Scalar.remsi v518 v520
  let c0_i32_337 : BitVec 32 := 0#32
  let v523 : BitVec 1 := Scalar.cmpi .slt v521 c0_i32_337
  let c0_i32_338 : BitVec 32 := 0#32
  let v524 : BitVec 1 := Scalar.cmpi .slt v520 c0_i32_338
  let v525 : BitVec 1 := Scalar.xori v523 v524
  let c0_i32_336 : BitVec 32 := 0#32
  let v522 : BitVec 1 := Scalar.cmpi .ne v521 c0_i32_336
  let v526 : BitVec 1 := Scalar.andi v525 v522
  let v527 : BitVec 32 := Scalar.addi v521 v520
  let v528 : BitVec 32 := Scalar.select v526 v527 v521
  let c0_i32_342 : BitVec 32 := 0#32
  let c0_i32_343 : BitVec 32 := 0#32
  ![v528.toNat, 0, 0]
def k0_off7 (d0 : Dev nD) (c1_i32_332 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_332
  let c16_i32_333 : BitVec 32 := 16#32
  let c0_i32_334 : BitVec 32 := 0#32
  let v519 : BitVec 1 := Scalar.cmpi .eq c16_i32_333 c0_i32_334
  let c1_i32_335 : BitVec 32 := 1#32
  let v520 : BitVec 32 := Scalar.select v519 c1_i32_335 c16_i32_333
  let v521 : BitVec 32 := Scalar.remsi v518 v520
  let c0_i32_337 : BitVec 32 := 0#32
  let v523 : BitVec 1 := Scalar.cmpi .slt v521 c0_i32_337
  let c0_i32_338 : BitVec 32 := 0#32
  let v524 : BitVec 1 := Scalar.cmpi .slt v520 c0_i32_338
  let v525 : BitVec 1 := Scalar.xori v523 v524
  let c0_i32_336 : BitVec 32 := 0#32
  let v522 : BitVec 1 := Scalar.cmpi .ne v521 c0_i32_336
  let v526 : BitVec 1 := Scalar.andi v525 v522
  let v527 : BitVec 32 := Scalar.addi v521 v520
  let v528 : BitVec 32 := Scalar.select v526 v527 v521
  let v537 : Index := Scalar.indexCast v528
  let c0_345 : Index := 0#32
  let c0_346 : Index := 0#32
  ![v537.toNat, 0, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_567 : BitVec 32 := 16#32
  let v878 : BitVec 32 := Scalar.muli v2 c16_i32_567
  let c0_i32_570 : BitVec 32 := 0#32
  ![v878.toNat, 0]
def k0_dev31 (d0 : Dev nD) : Nat :=
  let c0_i32_569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_559 : BitVec 32 := 14#32
  let v866 : BitVec 32 := Scalar.addi v2 c14_i32_559
  let c16_i32_560 : BitVec 32 := 16#32
  let c0_i32_561 : BitVec 32 := 0#32
  let v867 : BitVec 1 := Scalar.cmpi .eq c16_i32_560 c0_i32_561
  let c1_i32_562 : BitVec 32 := 1#32
  let v868 : BitVec 32 := Scalar.select v867 c1_i32_562 c16_i32_560
  let v869 : BitVec 32 := Scalar.remsi v866 v868
  let c0_i32_564 : BitVec 32 := 0#32
  let v871 : BitVec 1 := Scalar.cmpi .slt v869 c0_i32_564
  let c0_i32_565 : BitVec 32 := 0#32
  let v872 : BitVec 1 := Scalar.cmpi .slt v868 c0_i32_565
  let v873 : BitVec 1 := Scalar.xori v871 v872
  let c0_i32_563 : BitVec 32 := 0#32
  let v870 : BitVec 1 := Scalar.cmpi .ne v869 c0_i32_563
  let v874 : BitVec 1 := Scalar.andi v873 v870
  let v875 : BitVec 32 := Scalar.addi v869 v868
  let v876 : BitVec 32 := Scalar.select v874 v875 v869
  let c1_i32_568 : BitVec 32 := 1#32
  let v879 : BitVec 32 := Scalar.muli v876 c1_i32_568
  let v880 : BitVec 32 := Scalar.addi c0_i32_569 v879
  v880.toNat
def k0_dev32 (d0 : Dev nD) : Nat :=
  let c0_i32_582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_572 : BitVec 32 := 10#32
  let v887 : BitVec 32 := Scalar.addi v2 c10_i32_572
  let c16_i32_573 : BitVec 32 := 16#32
  let c0_i32_574 : BitVec 32 := 0#32
  let v888 : BitVec 1 := Scalar.cmpi .eq c16_i32_573 c0_i32_574
  let c1_i32_575 : BitVec 32 := 1#32
  let v889 : BitVec 32 := Scalar.select v888 c1_i32_575 c16_i32_573
  let v890 : BitVec 32 := Scalar.remsi v887 v889
  let c0_i32_577 : BitVec 32 := 0#32
  let v892 : BitVec 1 := Scalar.cmpi .slt v890 c0_i32_577
  let c0_i32_578 : BitVec 32 := 0#32
  let v893 : BitVec 1 := Scalar.cmpi .slt v889 c0_i32_578
  let v894 : BitVec 1 := Scalar.xori v892 v893
  let c0_i32_576 : BitVec 32 := 0#32
  let v891 : BitVec 1 := Scalar.cmpi .ne v890 c0_i32_576
  let v895 : BitVec 1 := Scalar.andi v894 v891
  let v896 : BitVec 32 := Scalar.addi v890 v889
  let v897 : BitVec 32 := Scalar.select v895 v896 v890
  let c1_i32_581 : BitVec 32 := 1#32
  let v900 : BitVec 32 := Scalar.muli v897 c1_i32_581
  let v901 : BitVec 32 := Scalar.addi c0_i32_582 v900
  v901.toNat
def k0_dev33 (d0 : Dev nD) : Nat :=
  let c0_i32_595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_585 : BitVec 32 := 13#32
  let v908 : BitVec 32 := Scalar.addi v2 c13_i32_585
  let c16_i32_586 : BitVec 32 := 16#32
  let c0_i32_587 : BitVec 32 := 0#32
  let v909 : BitVec 1 := Scalar.cmpi .eq c16_i32_586 c0_i32_587
  let c1_i32_588 : BitVec 32 := 1#32
  let v910 : BitVec 32 := Scalar.select v909 c1_i32_588 c16_i32_586
  let v911 : BitVec 32 := Scalar.remsi v908 v910
  let c0_i32_590 : BitVec 32 := 0#32
  let v913 : BitVec 1 := Scalar.cmpi .slt v911 c0_i32_590
  let c0_i32_591 : BitVec 32 := 0#32
  let v914 : BitVec 1 := Scalar.cmpi .slt v910 c0_i32_591
  let v915 : BitVec 1 := Scalar.xori v913 v914
  let c0_i32_589 : BitVec 32 := 0#32
  let v912 : BitVec 1 := Scalar.cmpi .ne v911 c0_i32_589
  let v916 : BitVec 1 := Scalar.andi v915 v912
  let v917 : BitVec 32 := Scalar.addi v911 v910
  let v918 : BitVec 32 := Scalar.select v916 v917 v911
  let c1_i32_594 : BitVec 32 := 1#32
  let v921 : BitVec 32 := Scalar.muli v918 c1_i32_594
  let v922 : BitVec 32 := Scalar.addi c0_i32_595 v921
  v922.toNat
def k0_dev34 (d0 : Dev nD) : Nat :=
  let c0_i32_608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_598 : BitVec 32 := 15#32
  let v929 : BitVec 32 := Scalar.addi v2 c15_i32_598
  let c16_i32_599 : BitVec 32 := 16#32
  let c0_i32_600 : BitVec 32 := 0#32
  let v930 : BitVec 1 := Scalar.cmpi .eq c16_i32_599 c0_i32_600
  let c1_i32_601 : BitVec 32 := 1#32
  let v931 : BitVec 32 := Scalar.select v930 c1_i32_601 c16_i32_599
  let v932 : BitVec 32 := Scalar.remsi v929 v931
  let c0_i32_603 : BitVec 32 := 0#32
  let v934 : BitVec 1 := Scalar.cmpi .slt v932 c0_i32_603
  let c0_i32_604 : BitVec 32 := 0#32
  let v935 : BitVec 1 := Scalar.cmpi .slt v931 c0_i32_604
  let v936 : BitVec 1 := Scalar.xori v934 v935
  let c0_i32_602 : BitVec 32 := 0#32
  let v933 : BitVec 1 := Scalar.cmpi .ne v932 c0_i32_602
  let v937 : BitVec 1 := Scalar.andi v936 v933
  let v938 : BitVec 32 := Scalar.addi v932 v931
  let v939 : BitVec 32 := Scalar.select v937 v938 v932
  let c1_i32_607 : BitVec 32 := 1#32
  let v942 : BitVec 32 := Scalar.muli v939 c1_i32_607
  let v943 : BitVec 32 := Scalar.addi c0_i32_608 v942
  v943.toNat
def k0_dev35 (d0 : Dev nD) : Nat :=
  let c0_i32_621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_611 : BitVec 32 := 6#32
  let v950 : BitVec 32 := Scalar.addi v2 c6_i32_611
  let c16_i32_612 : BitVec 32 := 16#32
  let c0_i32_613 : BitVec 32 := 0#32
  let v951 : BitVec 1 := Scalar.cmpi .eq c16_i32_612 c0_i32_613
  let c1_i32_614 : BitVec 32 := 1#32
  let v952 : BitVec 32 := Scalar.select v951 c1_i32_614 c16_i32_612
  let v953 : BitVec 32 := Scalar.remsi v950 v952
  let c0_i32_616 : BitVec 32 := 0#32
  let v955 : BitVec 1 := Scalar.cmpi .slt v953 c0_i32_616
  let c0_i32_617 : BitVec 32 := 0#32
  let v956 : BitVec 1 := Scalar.cmpi .slt v952 c0_i32_617
  let v957 : BitVec 1 := Scalar.xori v955 v956
  let c0_i32_615 : BitVec 32 := 0#32
  let v954 : BitVec 1 := Scalar.cmpi .ne v953 c0_i32_615
  let v958 : BitVec 1 := Scalar.andi v957 v954
  let v959 : BitVec 32 := Scalar.addi v953 v952
  let v960 : BitVec 32 := Scalar.select v958 v959 v953
  let c1_i32_620 : BitVec 32 := 1#32
  let v963 : BitVec 32 := Scalar.muli v960 c1_i32_620
  let v964 : BitVec 32 := Scalar.addi c0_i32_621 v963
  v964.toNat
def k0_dev36 (d0 : Dev nD) : Nat :=
  let c0_i32_634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_624 : BitVec 32 := 9#32
  let v971 : BitVec 32 := Scalar.addi v2 c9_i32_624
  let c16_i32_625 : BitVec 32 := 16#32
  let c0_i32_626 : BitVec 32 := 0#32
  let v972 : BitVec 1 := Scalar.cmpi .eq c16_i32_625 c0_i32_626
  let c1_i32_627 : BitVec 32 := 1#32
  let v973 : BitVec 32 := Scalar.select v972 c1_i32_627 c16_i32_625
  let v974 : BitVec 32 := Scalar.remsi v971 v973
  let c0_i32_629 : BitVec 32 := 0#32
  let v976 : BitVec 1 := Scalar.cmpi .slt v974 c0_i32_629
  let c0_i32_630 : BitVec 32 := 0#32
  let v977 : BitVec 1 := Scalar.cmpi .slt v973 c0_i32_630
  let v978 : BitVec 1 := Scalar.xori v976 v977
  let c0_i32_628 : BitVec 32 := 0#32
  let v975 : BitVec 1 := Scalar.cmpi .ne v974 c0_i32_628
  let v979 : BitVec 1 := Scalar.andi v978 v975
  let v980 : BitVec 32 := Scalar.addi v974 v973
  let v981 : BitVec 32 := Scalar.select v979 v980 v974
  let c1_i32_633 : BitVec 32 := 1#32
  let v984 : BitVec 32 := Scalar.muli v981 c1_i32_633
  let v985 : BitVec 32 := Scalar.addi c0_i32_634 v984
  v985.toNat
def k0_dev37 (d0 : Dev nD) : Nat :=
  let c0_i32_647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_637 : BitVec 32 := 11#32
  let v992 : BitVec 32 := Scalar.addi v2 c11_i32_637
  let c16_i32_638 : BitVec 32 := 16#32
  let c0_i32_639 : BitVec 32 := 0#32
  let v993 : BitVec 1 := Scalar.cmpi .eq c16_i32_638 c0_i32_639
  let c1_i32_640 : BitVec 32 := 1#32
  let v994 : BitVec 32 := Scalar.select v993 c1_i32_640 c16_i32_638
  let v995 : BitVec 32 := Scalar.remsi v992 v994
  let c0_i32_642 : BitVec 32 := 0#32
  let v997 : BitVec 1 := Scalar.cmpi .slt v995 c0_i32_642
  let c0_i32_643 : BitVec 32 := 0#32
  let v998 : BitVec 1 := Scalar.cmpi .slt v994 c0_i32_643
  let v999 : BitVec 1 := Scalar.xori v997 v998
  let c0_i32_641 : BitVec 32 := 0#32
  let v996 : BitVec 1 := Scalar.cmpi .ne v995 c0_i32_641
  let v1000 : BitVec 1 := Scalar.andi v999 v996
  let v1001 : BitVec 32 := Scalar.addi v995 v994
  let v1002 : BitVec 32 := Scalar.select v1000 v1001 v995
  let c1_i32_646 : BitVec 32 := 1#32
  let v1005 : BitVec 32 := Scalar.muli v1002 c1_i32_646
  let v1006 : BitVec 32 := Scalar.addi c0_i32_647 v1005
  v1006.toNat
def k0_dev38 (d0 : Dev nD) : Nat :=
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_650 : BitVec 32 := 12#32
  let v1013 : BitVec 32 := Scalar.addi v2 c12_i32_650
  let c16_i32_651 : BitVec 32 := 16#32
  let c0_i32_652 : BitVec 32 := 0#32
  let v1014 : BitVec 1 := Scalar.cmpi .eq c16_i32_651 c0_i32_652
  let c1_i32_653 : BitVec 32 := 1#32
  let v1015 : BitVec 32 := Scalar.select v1014 c1_i32_653 c16_i32_651
  let v1016 : BitVec 32 := Scalar.remsi v1013 v1015
  let c0_i32_655 : BitVec 32 := 0#32
  let v1018 : BitVec 1 := Scalar.cmpi .slt v1016 c0_i32_655
  let c0_i32_656 : BitVec 32 := 0#32
  let v1019 : BitVec 1 := Scalar.cmpi .slt v1015 c0_i32_656
  let v1020 : BitVec 1 := Scalar.xori v1018 v1019
  let c0_i32_654 : BitVec 32 := 0#32
  let v1017 : BitVec 1 := Scalar.cmpi .ne v1016 c0_i32_654
  let v1021 : BitVec 1 := Scalar.andi v1020 v1017
  let v1022 : BitVec 32 := Scalar.addi v1016 v1015
  let v1023 : BitVec 32 := Scalar.select v1021 v1022 v1016
  let c1_i32_659 : BitVec 32 := 1#32
  let v1026 : BitVec 32 := Scalar.muli v1023 c1_i32_659
  let v1027 : BitVec 32 := Scalar.addi c0_i32_660 v1026
  v1027.toNat
def k0_dev39 (d0 : Dev nD) : Nat :=
  let c0_i32_673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_663 : BitVec 32 := 2#32
  let v1034 : BitVec 32 := Scalar.addi v2 c2_i32_663
  let c16_i32_664 : BitVec 32 := 16#32
  let c0_i32_665 : BitVec 32 := 0#32
  let v1035 : BitVec 1 := Scalar.cmpi .eq c16_i32_664 c0_i32_665
  let c1_i32_666 : BitVec 32 := 1#32
  let v1036 : BitVec 32 := Scalar.select v1035 c1_i32_666 c16_i32_664
  let v1037 : BitVec 32 := Scalar.remsi v1034 v1036
  let c0_i32_668 : BitVec 32 := 0#32
  let v1039 : BitVec 1 := Scalar.cmpi .slt v1037 c0_i32_668
  let c0_i32_669 : BitVec 32 := 0#32
  let v1040 : BitVec 1 := Scalar.cmpi .slt v1036 c0_i32_669
  let v1041 : BitVec 1 := Scalar.xori v1039 v1040
  let c0_i32_667 : BitVec 32 := 0#32
  let v1038 : BitVec 1 := Scalar.cmpi .ne v1037 c0_i32_667
  let v1042 : BitVec 1 := Scalar.andi v1041 v1038
  let v1043 : BitVec 32 := Scalar.addi v1037 v1036
  let v1044 : BitVec 32 := Scalar.select v1042 v1043 v1037
  let c1_i32_672 : BitVec 32 := 1#32
  let v1047 : BitVec 32 := Scalar.muli v1044 c1_i32_672
  let v1048 : BitVec 32 := Scalar.addi c0_i32_673 v1047
  v1048.toNat
def k0_dev40 (d0 : Dev nD) : Nat :=
  let c0_i32_686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_676 : BitVec 32 := 5#32
  let v1055 : BitVec 32 := Scalar.addi v2 c5_i32_676
  let c16_i32_677 : BitVec 32 := 16#32
  let c0_i32_678 : BitVec 32 := 0#32
  let v1056 : BitVec 1 := Scalar.cmpi .eq c16_i32_677 c0_i32_678
  let c1_i32_679 : BitVec 32 := 1#32
  let v1057 : BitVec 32 := Scalar.select v1056 c1_i32_679 c16_i32_677
  let v1058 : BitVec 32 := Scalar.remsi v1055 v1057
  let c0_i32_681 : BitVec 32 := 0#32
  let v1060 : BitVec 1 := Scalar.cmpi .slt v1058 c0_i32_681
  let c0_i32_682 : BitVec 32 := 0#32
  let v1061 : BitVec 1 := Scalar.cmpi .slt v1057 c0_i32_682
  let v1062 : BitVec 1 := Scalar.xori v1060 v1061
  let c0_i32_680 : BitVec 32 := 0#32
  let v1059 : BitVec 1 := Scalar.cmpi .ne v1058 c0_i32_680
  let v1063 : BitVec 1 := Scalar.andi v1062 v1059
  let v1064 : BitVec 32 := Scalar.addi v1058 v1057
  let v1065 : BitVec 32 := Scalar.select v1063 v1064 v1058
  let c1_i32_685 : BitVec 32 := 1#32
  let v1068 : BitVec 32 := Scalar.muli v1065 c1_i32_685
  let v1069 : BitVec 32 := Scalar.addi c0_i32_686 v1068
  v1069.toNat
def k0_dev41 (d0 : Dev nD) : Nat :=
  let c0_i32_699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_689 : BitVec 32 := 7#32
  let v1076 : BitVec 32 := Scalar.addi v2 c7_i32_689
  let c16_i32_690 : BitVec 32 := 16#32
  let c0_i32_691 : BitVec 32 := 0#32
  let v1077 : BitVec 1 := Scalar.cmpi .eq c16_i32_690 c0_i32_691
  let c1_i32_692 : BitVec 32 := 1#32
  let v1078 : BitVec 32 := Scalar.select v1077 c1_i32_692 c16_i32_690
  let v1079 : BitVec 32 := Scalar.remsi v1076 v1078
  let c0_i32_694 : BitVec 32 := 0#32
  let v1081 : BitVec 1 := Scalar.cmpi .slt v1079 c0_i32_694
  let c0_i32_695 : BitVec 32 := 0#32
  let v1082 : BitVec 1 := Scalar.cmpi .slt v1078 c0_i32_695
  let v1083 : BitVec 1 := Scalar.xori v1081 v1082
  let c0_i32_693 : BitVec 32 := 0#32
  let v1080 : BitVec 1 := Scalar.cmpi .ne v1079 c0_i32_693
  let v1084 : BitVec 1 := Scalar.andi v1083 v1080
  let v1085 : BitVec 32 := Scalar.addi v1079 v1078
  let v1086 : BitVec 32 := Scalar.select v1084 v1085 v1079
  let c1_i32_698 : BitVec 32 := 1#32
  let v1089 : BitVec 32 := Scalar.muli v1086 c1_i32_698
  let v1090 : BitVec 32 := Scalar.addi c0_i32_699 v1089
  v1090.toNat
def k0_dev42 (d0 : Dev nD) : Nat :=
  let c0_i32_712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_702 : BitVec 32 := 8#32
  let v1097 : BitVec 32 := Scalar.addi v2 c8_i32_702
  let c16_i32_703 : BitVec 32 := 16#32
  let c0_i32_704 : BitVec 32 := 0#32
  let v1098 : BitVec 1 := Scalar.cmpi .eq c16_i32_703 c0_i32_704
  let c1_i32_705 : BitVec 32 := 1#32
  let v1099 : BitVec 32 := Scalar.select v1098 c1_i32_705 c16_i32_703
  let v1100 : BitVec 32 := Scalar.remsi v1097 v1099
  let c0_i32_707 : BitVec 32 := 0#32
  let v1102 : BitVec 1 := Scalar.cmpi .slt v1100 c0_i32_707
  let c0_i32_708 : BitVec 32 := 0#32
  let v1103 : BitVec 1 := Scalar.cmpi .slt v1099 c0_i32_708
  let v1104 : BitVec 1 := Scalar.xori v1102 v1103
  let c0_i32_706 : BitVec 32 := 0#32
  let v1101 : BitVec 1 := Scalar.cmpi .ne v1100 c0_i32_706
  let v1105 : BitVec 1 := Scalar.andi v1104 v1101
  let v1106 : BitVec 32 := Scalar.addi v1100 v1099
  let v1107 : BitVec 32 := Scalar.select v1105 v1106 v1100
  let c1_i32_711 : BitVec 32 := 1#32
  let v1110 : BitVec 32 := Scalar.muli v1107 c1_i32_711
  let v1111 : BitVec 32 := Scalar.addi c0_i32_712 v1110
  v1111.toNat
def k0_dev43 (d0 : Dev nD) : Nat :=
  let c0_i32_725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_715 : BitVec 32 := 1#32
  let v1118 : BitVec 32 := Scalar.addi v2 c1_i32_715
  let c16_i32_716 : BitVec 32 := 16#32
  let c0_i32_717 : BitVec 32 := 0#32
  let v1119 : BitVec 1 := Scalar.cmpi .eq c16_i32_716 c0_i32_717
  let c1_i32_718 : BitVec 32 := 1#32
  let v1120 : BitVec 32 := Scalar.select v1119 c1_i32_718 c16_i32_716
  let v1121 : BitVec 32 := Scalar.remsi v1118 v1120
  let c0_i32_720 : BitVec 32 := 0#32
  let v1123 : BitVec 1 := Scalar.cmpi .slt v1121 c0_i32_720
  let c0_i32_721 : BitVec 32 := 0#32
  let v1124 : BitVec 1 := Scalar.cmpi .slt v1120 c0_i32_721
  let v1125 : BitVec 1 := Scalar.xori v1123 v1124
  let c0_i32_719 : BitVec 32 := 0#32
  let v1122 : BitVec 1 := Scalar.cmpi .ne v1121 c0_i32_719
  let v1126 : BitVec 1 := Scalar.andi v1125 v1122
  let v1127 : BitVec 32 := Scalar.addi v1121 v1120
  let v1128 : BitVec 32 := Scalar.select v1126 v1127 v1121
  let c1_i32_724 : BitVec 32 := 1#32
  let v1131 : BitVec 32 := Scalar.muli v1128 c1_i32_724
  let v1132 : BitVec 32 := Scalar.addi c0_i32_725 v1131
  v1132.toNat
def k0_dev44 (d0 : Dev nD) : Nat :=
  let c0_i32_738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_728 : BitVec 32 := 3#32
  let v1139 : BitVec 32 := Scalar.addi v2 c3_i32_728
  let c16_i32_729 : BitVec 32 := 16#32
  let c0_i32_730 : BitVec 32 := 0#32
  let v1140 : BitVec 1 := Scalar.cmpi .eq c16_i32_729 c0_i32_730
  let c1_i32_731 : BitVec 32 := 1#32
  let v1141 : BitVec 32 := Scalar.select v1140 c1_i32_731 c16_i32_729
  let v1142 : BitVec 32 := Scalar.remsi v1139 v1141
  let c0_i32_733 : BitVec 32 := 0#32
  let v1144 : BitVec 1 := Scalar.cmpi .slt v1142 c0_i32_733
  let c0_i32_734 : BitVec 32 := 0#32
  let v1145 : BitVec 1 := Scalar.cmpi .slt v1141 c0_i32_734
  let v1146 : BitVec 1 := Scalar.xori v1144 v1145
  let c0_i32_732 : BitVec 32 := 0#32
  let v1143 : BitVec 1 := Scalar.cmpi .ne v1142 c0_i32_732
  let v1147 : BitVec 1 := Scalar.andi v1146 v1143
  let v1148 : BitVec 32 := Scalar.addi v1142 v1141
  let v1149 : BitVec 32 := Scalar.select v1147 v1148 v1142
  let c1_i32_737 : BitVec 32 := 1#32
  let v1152 : BitVec 32 := Scalar.muli v1149 c1_i32_737
  let v1153 : BitVec 32 := Scalar.addi c0_i32_738 v1152
  v1153.toNat
def k0_dev45 (d0 : Dev nD) : Nat :=
  let c0_i32_751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_741 : BitVec 32 := 4#32
  let v1160 : BitVec 32 := Scalar.addi v2 c4_i32_741
  let c16_i32_742 : BitVec 32 := 16#32
  let c0_i32_743 : BitVec 32 := 0#32
  let v1161 : BitVec 1 := Scalar.cmpi .eq c16_i32_742 c0_i32_743
  let c1_i32_744 : BitVec 32 := 1#32
  let v1162 : BitVec 32 := Scalar.select v1161 c1_i32_744 c16_i32_742
  let v1163 : BitVec 32 := Scalar.remsi v1160 v1162
  let c0_i32_746 : BitVec 32 := 0#32
  let v1165 : BitVec 1 := Scalar.cmpi .slt v1163 c0_i32_746
  let c0_i32_747 : BitVec 32 := 0#32
  let v1166 : BitVec 1 := Scalar.cmpi .slt v1162 c0_i32_747
  let v1167 : BitVec 1 := Scalar.xori v1165 v1166
  let c0_i32_745 : BitVec 32 := 0#32
  let v1164 : BitVec 1 := Scalar.cmpi .ne v1163 c0_i32_745
  let v1168 : BitVec 1 := Scalar.andi v1167 v1164
  let v1169 : BitVec 32 := Scalar.addi v1163 v1162
  let v1170 : BitVec 32 := Scalar.select v1168 v1169 v1163
  let c1_i32_750 : BitVec 32 := 1#32
  let v1173 : BitVec 32 := Scalar.muli v1170 c1_i32_750
  let v1174 : BitVec 32 := Scalar.addi c0_i32_751 v1173
  v1174.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x256 : Shape := ⟨2, ![4096, 256]⟩
abbrev S16x256x256 : Shape := ⟨3, ![16, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S16x256x256, .f32⟩
  | .hbm, ⟨2, _⟩ => ⟨S_, .f32⟩
  | .hbm, ⟨3, _⟩ => ⟨S256x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Sched.lean ====
/- The protocol of the exchange: which cells a device has, what each signal and each transfer hands over when it
   arrives, and what every buffer holds at the end. Everything is stated for any float values `F`. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Transfers
public import Idealize.ShloMosaic.Lib.Tactic

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-! ## Peers and cells -/

/-- The device `d` places on from `c` around the sixteen. -/
def peer (c d : Dev nD) : Dev nD := ⟨(c.val + d.val) % 16, Nat.mod_lt _ (by decide)⟩

/-- The DMA semaphores by family (0: scatter sent, 1: scatter arrived, 2: gather sent, 3: gather arrived) and member. -/
def dsem (k : Fin 4) (j : Fin 16) : DmaSem sig := ⟨2 + 16 * k.val + j.val, by show _ < 66; omega⟩
/-- The family of a DMA semaphore and its member. -/
def semK (q : DmaSem sig) : Fin 4 := ⟨(q.val - 2) / 16 % 4, Nat.mod_lt _ (by decide)⟩
def semJ (q : DmaSem sig) : Fin 16 := ⟨(q.val - 2) % 16, Nat.mod_lt _ (by decide)⟩
theorem semK_dsem (k : Fin 4) (j : Fin 16) : semK (dsem k j) = k := by
  apply Fin.ext; simp only [semK, dsem]; omega
theorem semJ_dsem (k : Fin 4) (j : Fin 16) : semJ (dsem k j) = j := by
  apply Fin.ext; simp only [semJ, dsem]; omega
theorem dsem_own (k : Fin 4) (j : Fin 16) : 2 ≤ (dsem k j).val := by simp only [dsem]; omega

/-- The barrier's semaphore. -/
abbrev barS : Sem sig := (SemArray.scalar (sig.barrier 0 rfl) : Sems sig S_).sem

abbrev barCell (c : Dev nD) : GSem nD τ sig := ((c : Thread nD τ), .reg barS)
abbrev dCell (k : Fin 4) (c : Dev nD) (j : Fin 16) : GSem nD τ sig := ((c : Thread nD τ), .dma (dsem k j))

/-! ## The views a device reads and writes -/

theorem row_inb : ∀ j : Fin 16, ∀ a, (![16 * j.val, 0] : Fin 2 → ℕ) a + S16x256.size a ≤ S256x256.size a := by decide +kernel
theorem slot_inb : ∀ j : Fin 16, ∀ a, (![j.val, 0, 0] : Fin 3 → ℕ) a + S1x16x256.size a ≤ S16x16x256.size a := by decide +kernel

abbrev rowRect (j : Fin 16) : Rect S256x256 := Rect.unit (s := S256x256) ![16 * j.val, 0] S16x256.size (row_inb j)
abbrev slotRect (j : Fin 16) : Rect S16x16x256 := Rect.unit (s := S16x16x256) ![j.val, 0, 0] S1x16x256.size (slot_inb j)

/-- Row block `j` of the input's staging buffer. -/
abbrev xR (j : Fin 16) : Memref sig .tc .vmem S16x256 .f32 := (Memref.whole cc0_stg0_0).slice (rowRect j) (fun _ => rfl)
/-- Row block `j` of the result's staging buffer. -/
abbrev oR (j : Fin 16) : Memref sig .tc .vmem S16x256 .f32 := (Memref.whole cc0_stg1_0).slice (rowRect j) (fun _ => rfl)
/-- Slot `j` of the landing buffer. -/
abbrev rS (j : Fin 16) : Memref sig .tc .vmem S16x256 .f32 :=
  ((Memref.whole cc0_scratch0).slice (slotRect j) (fun _ => rfl)).squeeze S16x256 squeezes_S1x16x256_S16x256

/-- What one block's transfer credits. -/
abbrev N : ℕ := (rS 0).view.dmaCredit
theorem N_pos : 0 < N := View.dmaCredit_pos _ (by decide)

/-! ## Contents -/

/-- Device `c`'s input as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Row block `j` of device `p`'s input. -/
def blk (p j : Dev nD) : FVec F S16x256 .f32 := (xR j).view.read (Elt F) (xstg m ρ p)

/-- The offsets in the order in which blocks are added up. -/
abbrev seqL : List (Dev nD) := [1, 2, 3, 4, 5, 6, 7, 8, 9, 10, 11, 12, 13, 14, 15]

/-- Device `c`'s sum: its own row block `c` of its input, plus that row block of each peer's input in turn. -/
def accFrom (c : Dev nD) (a : FVec F S16x256 .f32) (l : List (Dev nD)) : FVec F S16x256 .f32 :=
  l.foldl (fun a d => addf a (blk m ρ (peer c d) c)) a
def acc (c : Dev nD) : FVec F S16x256 .f32 := accFrom m ρ c (blk m ρ c c) seqL

/-- The result every device ends with: row block `j` is device `j`'s sum. -/
def fin : (cc0_stg1_0 : Ref sig .tc).ty.Contents (Elt F) := fun i =>
  acc m ρ ⟨(i 0).val / 16, Nat.div_lt_of_lt_mul (i 0).isLt⟩
    (Fin.cons (⟨(i 0).val % 16, Nat.mod_lt _ (by decide)⟩ : Fin 16) (Fin.cons (i 1) (fun a => a.elim0)))

/-! ## The pieces of the buffers -/

def xRow (c : Dev nD) (j : Fin 16) : sProp 𝕄 :=
  (xR j).view.loc (c : Thread nD τ) ↦[(xR j).view.set]{fullShare} xstg m ρ c
def oRow (c : Dev nD) (j : Fin 16) (q : PosShare TreeShare) (f : (cc0_stg1_0 : Ref sig .tc).ty.Contents (Elt F)) : sProp 𝕄 :=
  (oR j).view.loc (c : Thread nD τ) ↦[(oR j).view.set]{q} f
def rSlot (c : Dev nD) (j : Fin 16) (f : (cc0_scratch0 : Ref sig .tc).ty.Contents (Elt F)) : sProp 𝕄 :=
  (rS j).view.loc (c : Thread nD τ) ↦[(rS j).view.set]{fullShare} f
/-- Slot `j` of `c`'s landing buffer, holding row block `c` of `j`'s input. -/
def rsGot (c : Dev nD) (j : Fin 16) : sProp 𝕄 :=
  iprop(∃ f, ⌜(rS j).view.read (Elt F) f = blk m ρ j c⌝ ∗ rSlot c j f)

/-- The share of its own row block a device lends the transfer to peer `p`. -/
def piece (p : Fin 16) : PosShare TreeShare := Transfers.dealOf fullShare Finset.univ p

omit [FloatOps F] in
instance xRow_storable (c j) : BI.Storable (upEmb : UEmb _ 𝕄) (xRow (F := F) m ρ c j) := by unfold xRow; infer_instance
omit [FloatOps F] in
instance oRow_storable (c j q f) : BI.Storable (upEmb : UEmb _ 𝕄) (oRow (F := F) c j q f) := by unfold oRow; infer_instance
omit [FloatOps F] in
instance rSlot_storable (c j f) : BI.Storable (upEmb : UEmb _ 𝕄) (rSlot (F := F) c j f) := by unfold rSlot; infer_instance
omit [FloatOps F] in
instance rsGot_storable (c j) : BI.Storable (upEmb : UEmb _ 𝕄) (rsGot (F := F) m ρ c j) := by unfold rsGot; infer_instance

/-! ## The schedule -/

/-- What `p`'s signal hands `c`: `p`'s landing slot for `c`, and row block `c` of `p`'s result. -/
def barPay (c p : Dev nD) : sProp 𝕄 := iprop((∃ f, rSlot p c f) ∗ ∃ f, oRow p c fullShare f)

/-- What a transfer's arrival on cell (`k`, `j`) of `c` hands `c`. -/
def dPay (c : Dev nD) (k : Fin 4) (j : Fin 16) : sProp 𝕄 :=
  match k with
  | 0 => xRow m ρ c j
  | 1 => rsGot m ρ c j
  | 2 => oRow c c (piece j) (fin m ρ)
  | 3 => oRow c j fullShare (fin m ρ)

instance dPay_storable (c k j) : BI.Storable (upEmb : UEmb _ 𝕄) (dPay (F := F) m ρ c k j) := by
  unfold dPay; split <;> infer_instance
omit [FloatOps F] in
instance barPay_storable (c p) : BI.Storable (upEmb : UEmb _ 𝕄) (barPay (F := F) c p) := by unfold barPay; infer_instance

/-- The duties of a cell of device `c`: on the barrier one unit from every other device, on a DMA cell that is not
    `c`'s own member one transfer. -/
def dutiesOf (c : Dev nD) : SemLoc sig → Finset (Dev nD)
  | .reg _ => Finset.univ.erase c
  | .dma q => if 2 ≤ q.val ∧ semJ q ≠ c then {0} else ∅

def Rd : Rounds.Schedule (GSem nD τ sig) (Dev nD) 𝕄 where
  duties g r := if r = 0 ∧ g.1.2 = .tc then dutiesOf g.1.1 g.2 else ∅
  unitless _ := False
  amount g _ _ := match g.2 with
    | .reg _ => 1
    | .dma _ => N
  payload g _ d := match g.2 with
    | .reg _ => barPay g.1.1 d
    | .dma q => dPay m ρ g.1.1 (semK q) (semJ q)
  amount_pos g _ _ _ := by
    rcases g with ⟨_, _ | _⟩
    · exact Nat.one_pos
    · exact N_pos

instance Rd_payload_storable (g : GSem nD τ sig) (r : ℕ) (d : Dev nD) : BI.Storable (upEmb : UEmb _ 𝕄) ((Rd (F := F) m ρ).payload g r d) := by
  rcases g with ⟨t, _ | q⟩
  · show BI.Storable upEmb (barPay t.1 d); infer_instance
  · show BI.Storable upEmb (dPay m ρ t.1 (semK q) (semJ q)); infer_instance

section Facts
variable (c : Dev nD) (k : Fin 4) (j : Fin 16)

theorem duties_bar : (Rd (F := F) m ρ).duties (barCell c) 0 = Finset.univ.erase c := by
  dsimp only [Rd]; rw [if_pos ⟨rfl, rfl⟩]; rfl
theorem duties_d (h : j ≠ c) : (Rd (F := F) m ρ).duties (dCell k c j) 0 = {0} := by
  dsimp only [Rd]; rw [if_pos ⟨rfl, rfl⟩]; dsimp only [dutiesOf]; rw [semJ_dsem]; exact if_pos ⟨dsem_own k j, h⟩
theorem duties_self (r : ℕ) : (Rd (F := F) m ρ).duties (dCell k c c) r = ∅ := by
  dsimp only [Rd]; split
  · dsimp only [dutiesOf]; rw [semJ_dsem]; exact if_neg fun h => h.2 rfl
  · rfl
theorem duties_later (g : GSem nD τ sig) : ∀ r, 1 ≤ r → (Rd (F := F) m ρ).duties g r = ∅ :=
  fun r hr => by dsimp only [Rd]; exact if_neg fun h => by omega

theorem amount_bar (d : Dev nD) : (Rd (F := F) m ρ).amount (barCell c) 0 d = 1 := rfl
theorem amount_d (d : Dev nD) : (Rd (F := F) m ρ).amount (dCell k c j) 0 d = N := rfl
theorem payload_bar (d : Dev nD) : (Rd (F := F) m ρ).payload (barCell c) 0 d = barPay c d := rfl
theorem payload_d (d : Dev nD) : (Rd (F := F) m ρ).payload (dCell k c j) 0 d = dPay m ρ c k j := by
  show dPay m ρ c (semK (dsem k j)) (semJ (dsem k j)) = _
  rw [semK_dsem, semJ_dsem]

theorem expect_bar : (Rd (F := F) m ρ).expect (barCell c) 0 = 15 := by
  unfold Schedule.expect Schedule.amountOf
  rw [duties_bar, Finset.sum_congr rfl fun d _ => amount_bar m ρ c d, Finset.sum_const, Finset.card_erase_of_mem (Finset.mem_univ c)]
  rfl
theorem expect_d (h : j ≠ c) : (Rd (F := F) m ρ).expect (dCell k c j) 0 = N := by
  unfold Schedule.expect Schedule.amountOf; rw [duties_d m ρ c k j h, Finset.sum_singleton, amount_d]

theorem rest_bar : bigSep ((Rd (F := F) m ρ).duties (barCell c) 0 \ ∅) (fun d => (Rd (F := F) m ρ).payload (barCell c) 0 d)
    = bigSep (Finset.univ.erase c) fun p => barPay c p := by
  rw [Finset.sdiff_empty, duties_bar]; rfl
theorem rest_d (h : j ≠ c) : bigSep ((Rd (F := F) m ρ).duties (dCell k c j) 0 \ ∅) (fun d => (Rd (F := F) m ρ).payload (dCell k c j) 0 d)
    = dPay m ρ c k j := by
  rw [Finset.sdiff_empty, duties_d m ρ c k j h, bigSep_singleton, payload_d]

end Facts

end Cert.Exch
-- ==== Proof.Steps.lean ====
/- One step of each kind the kernel takes — a signal, a block's transfer, a wait, a load — each over a family of
   peers of which the step uses the first and leaves the rest. -/
module

public import proofs.«01_k».proof.Proof.Sched

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Peers -/

theorem peer_ne (c d : Dev nD) (hd : d ≠ 0) : peer c d ≠ c := by revert c d; decide +kernel
theorem peer_inj (c : Dev nD) : Function.Injective (peer c) := by revert c; unfold Function.Injective; decide +kernel
theorem peer_image (c : Dev nD) : (Finset.univ.erase (0 : Dev nD)).image (peer c) = Finset.univ.erase c := by revert c; decide +kernel

/-- The offsets in the order in which blocks are sent: the farthest first. -/
abbrev farL : List (Dev nD) := [14, 10, 13, 15, 6, 9, 11, 12, 2, 5, 7, 8, 1, 3, 4]

/-- A family over all offsets, in any order, is the family over all other devices. -/
theorem around (c : Dev nD) (l : List (Dev nD)) (h : l.toFinset = Finset.univ.erase 0) (hn : l.Nodup) (Φ : Dev nD → sProp 𝕄) :
    bigSepL l (fun d => Φ (peer c d)) = bigSep (Finset.univ.erase c) Φ := by
  rw [← bigSepL_map (peer c) l Φ]
  refine (bigSep_eq_bigSepL_of_eq (l.map (peer c)) ?_ (hn.map (peer_inj c)) Φ).symm
  rw [← peer_image c, ← h]; ext x; simp

/-! ## The cells, and what is known of all of them -/

/-- A device's cells: its barrier, and its DMA cells. -/
abbrev CI : Type := Option (Fin 4 × Fin 16)
def osem (kj : Fin 4 × Fin 16) : SemLoc sig := .dma (dsem kj.1 kj.2)
def ksem : CI → SemLoc sig
  | none => .reg barS
  | some kj => osem kj
abbrev kcell (ci : Dev nD × CI) : GSem nD τ sig := ((ci.1 : Thread nD τ), ksem ci.2)

def recs (K : Dev nD × CI → ℕ) : sProp 𝕄 :=
  iprop((bigSep Finset.univ fun ci : Dev nD × CI => cellInv ER (Rd m ρ) (K ci) (kcell ci))
    ∗ bigSep Finset.univ fun ci : Dev nD × CI => reached ER (kcell ci) 0)
instance recs_persistent (K) : BI.Persistent (recs (F := F) m ρ K) := by unfold recs; infer_instance

theorem recs_inv (K) (ci : Dev nD × CI) : recs (F := F) m ρ K ⊢ cellInv ER (Rd m ρ) (K ci) (kcell ci) := by
  unfold recs; exact sep_elim_left.trans (bigSep_elim (Finset.mem_univ ci))
theorem recs_reached (K) (ci : Dev nD × CI) : recs (F := F) m ρ K ⊢ reached ER (kcell ci) 0 := by
  unfold recs; exact sep_elim_right.trans (bigSep_elim (Finset.mem_univ ci))

/-! ## What is owed, and the order of waiting -/

/-- `n` owed on the cell `g d` for each `d` of the list, and `O`. -/
def owe (g : Dev nD → GSem nD τ sig) (n : ℕ) (l : List (Dev nD)) (O : CellTallies nD τ sig Unit) : CellTallies nD τ sig Unit :=
  l.foldr (fun d O => O + tallyAt (g d) () n) O

abbrev oweBar (c : Dev nD) := owe (fun d => barCell (peer c d)) 1
abbrev oweRs (c : Dev nD) := owe (fun d => dCell 1 (peer c d) c) N
abbrev oweAg (c : Dev nD) := owe (fun d => dCell 3 (peer c d) c) N

/-- At launch a device owes every peer its signal, its block and its sum. -/
def O₀ (c : Dev nD) : CellTallies nD τ sig Unit := oweBar c seqL (oweRs c farL (oweAg c farL 0))

def L (g : GSem nD τ sig) : Finset Unit := if g.1.2 = .tc then {()} else ∅
/-- Waits are ordered: the barrier, then the scatter's arrivals, then the gather's; all others wait for nothing owed. -/
def lv (g : GSem nD τ sig) (_ : Unit) : ℕ :=
  match g.2 with
  | .reg _ => 1
  | .dma q => if 2 ≤ q.val then (if semK q = 1 then 2 else if semK q = 3 then 3 else 0) else 0
theorem L_of_ne (g : GSem nD τ sig) (h : g.1.2 ≠ .tc) : L g = ∅ := if_neg h
theorem L_tc (c : Dev nD) (sm : SemLoc sig) : L ((c : Thread nD τ), sm) = {()} := if_pos rfl

theorem lv_d (k : Fin 4) (c : Dev nD) (j : Fin 16) : lv (dCell k c j) () = if k = 1 then 2 else if k = 3 then 3 else 0 := by
  show (if 2 ≤ (dsem k j).val then _ else 0) = _
  rw [if_pos (dsem_own k j), semK_dsem]

/-- Everything owed waits above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_owe {n : ℕ} {g : Dev nD → GSem nD τ sig} {k : ℕ} {O : CellTallies nD τ sig Unit} (hO : Above n O)
    (hg : ∀ d, (g d).1.2 = .tc ∧ n < lv (g d) ()) : ∀ l, Above n (owe g k l O)
  | [] => hO
  | d :: l => fun g' u h => by
    have h' : 0 < owe g k l O g' u + tallyAt (g d) () k g' u := h
    rw [tallyAt_apply] at h'
    by_cases e : g' = g d ∧ u = ()
    · rw [e.1]; exact hg d
    · rw [if_neg e] at h'; exact above_owe hO hg l g' u h'

theorem mayWait (c : Dev nD) (sm : SemLoc sig) (n : ℕ) (hn : lv ((c : Thread nD τ), sm) () ≤ n) (O : CellTallies nD τ sig Unit)
    (hO : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      have h1 : L g = {()} := if_pos (hO g u hg).1
      rw [h1]; exact Finset.mem_singleton_self _)
    (fun p hp => by rw [Finset.mem_singleton.mp hp]; exact hn)
    (fun g u hg => (hO g u hg).2)

/-! ## The program's own names for views and semaphores -/

abbrev 𝒱₀ : Variants := Variants.none
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Member `j` of the sixteen semaphores laid from `b`. -/
theorem sem_at (b : ℕ) (h : b + S16.numel ≤ 66) (off : Fin 1 → ℕ) (hi : ∀ a, off a + S1.size a ≤ S16.size a) (j : Fin 16) (ho : off = ![j.val]) :
    ((((SemArray.consecutive b S16 h : DmaSems sig S16).slice (Rect.unit (s := S16) off S1.size hi)).squeeze S_ squeezes_S1_S_).sem).val = b + j.val := by
  subst ho
  show b + (S16.rowMajor ((Rect.unit (s := S16) ![j.val] S1.size hi).emb _)).val = _
  rw [Shape.rowMajor_val_one]
  generalize Shape.reshapeEquiv _ _ = x
  show b + (j.val + 1 * (x 0).val) = _
  have : (x 0).val < 1 := (x 0).isLt
  omega

theorem sem_d (k : Fin 4) {b : ℕ} {h : b + S16.numel ≤ 66} (hb : b = 2 + 16 * k.val) {off : Fin 1 → ℕ} {hi : ∀ a, off a + S1.size a ≤ S16.size a}
    {j : Fin 16} (ho : off = ![j.val]) :
    ((((SemArray.consecutive b S16 h : DmaSems sig S16).slice (Rect.unit (s := S16) off S1.size hi)).squeeze S_ squeezes_S1_S_).sem) = dsem k j := by
  apply Fin.ext
  rw [sem_at b h off hi j ho, hb]; rfl

theorem xR_of {o : Fin 2 → ℕ} {h : ∀ a, o a + S16x256.size a ≤ S256x256.size a} {j : Fin 16} (e : o = ![16 * j.val, 0]) :
    (Memref.whole cc0_stg0_0).slice (Rect.unit (s := S256x256) o S16x256.size h) (fun _ => rfl) = xR j := by subst e; rfl
theorem oR_of {o : Fin 2 → ℕ} {h : ∀ a, o a + S16x256.size a ≤ S256x256.size a} {j : Fin 16} (e : o = ![16 * j.val, 0]) :
    (Memref.whole cc0_stg1_0).slice (Rect.unit (s := S256x256) o S16x256.size h) (fun _ => rfl) = oR j := by subst e; rfl
theorem rS_of {o : Fin 3 → ℕ} {h : ∀ a, o a + S1x16x256.size a ≤ S16x16x256.size a} {j : Fin 16} (e : o = ![j.val, 0, 0]) :
    ((Memref.whole cc0_scratch0).slice (Rect.unit (s := S16x16x256) o S1x16x256.size h) (fun _ => rfl)).squeeze S16x256 squeezes_S1x16x256_S16x256 = rS j := by
  subst e; rfl

/-! The kernel's offsets name the peer's member, row block and slot. -/
theorem off1_at {w : BitVec 32} {c d : Dev nD} (h : w = BitVec.ofNat 32 d.val) : k0_off1 c w = ![(peer c d).val] := by subst h; revert c d; decide +kernel
theorem off4_at {w : BitVec 32} {c d : Dev nD} (h : w = BitVec.ofNat 32 d.val) : k0_off4 c w = ![16 * (peer c d).val, 0] := by subst h; revert c d; decide +kernel
theorem off6_at {w : BitVec 32} {c d : Dev nD} (h : w = BitVec.ofNat 32 d.val) : k0_off6 c w = ![(peer c d).val, 0, 0] := by subst h; revert c d; decide +kernel
theorem off7_at {w : BitVec 32} {c d : Dev nD} (h : w = BitVec.ofNat 32 d.val) : k0_off7 c w = ![(peer c d).val, 0, 0] := by subst h; revert c d; decide +kernel
theorem off2_at : ∀ c : Dev nD, k0_off2 c = ![c.val] := by decide +kernel
theorem off3_at : ∀ c : Dev nD, k0_off3 c = ![c.val, 0, 0] := by decide +kernel
theorem off5_at : ∀ c : Dev nD, k0_off5 c = ![16 * c.val, 0] := by decide +kernel
theorem off8_at : ∀ c : Dev nD, k0_off8 c = ![16 * c.val, 0] := by decide +kernel

/-- Row block `c` of the result is device `c`'s sum. -/
theorem fin_row (c : Dev nD) (y : S16x256.Idx) : fin m ρ ((oR c).view.emb y) = acc m ρ c y := by
  have h0 : ((oR c).view.emb y 0).val = 16 * c.val + (y 0).val := by
    show 16 * c.val + 1 * (y 0).val = _; omega
  have h1 : ((oR c).view.emb y 1).val = (y 1).val := by
    show 0 + 1 * (y 1).val = _; omega
  have hy : (y 0).val < 16 := (y 0).isLt
  unfold fin
  have e : (⟨((oR c).view.emb y 0).val / 16, Nat.div_lt_of_lt_mul ((oR c).view.emb y 0).isLt⟩ : Dev nD) = c := by
    apply Fin.ext
    show ((oR c).view.emb y 0).val / 16 = c.val
    rw [h0]; omega
  rw [e]
  congr 1
  funext a
  fin_cases a
  · apply Fin.ext
    show ((oR c).view.emb y 0).val % 16 = (y 0).val
    rw [h0]; omega
  · exact Fin.ext h1

/-! ## The steps -/

section StepLemmas

variable (K : Dev nD × CI → ℕ)

/-- What every step knows: the cells' invariants, that round 0 of each is reached, and the levels. -/
def ctx : sProp 𝕄 := iprop(recs m ρ K ∗ levAts L lv)
instance ctx_persistent : BI.Persistent (ctx (F := F) m ρ K) := by unfold ctx; infer_instance

/-- What device `c` owes, whatever it has waited for. -/
def owesX (c : Dev nD) (O : CellTallies nD τ sig Unit) : sProp 𝕄 := iprop(∃ W, owes (c : Thread nD τ) O W)

/-- Signals still to send: to each peer its unit's token, and what the signal hands over. -/
def toSignal (c d : Dev nD) : sProp 𝕄 := iprop(dutyTok ER (barCell (peer c d)) 0 c ∗ barPay (peer c d) c)

variable {m ρ K}
variable {α : Type} {Q : α → sProp (MT nD τ sig Unit (Elt F) ℕ UU ℕ)} {k : PUnit → Prog (TpuEff nD τ sig (Elt F) Λ₀ .tc) α} {c d : Dev nD} {l dn : List (Dev nD)}
variable {O : CellTallies nD τ sig Unit} {R : sProp (MT nD τ sig Unit (Elt F) ℕ UU ℕ)}

/-- A program may be replaced by the operation it starts with and what follows it. -/
theorem head {P : sProp (MT nD τ sig Unit (Elt F) ℕ UU ℕ)} {p : Prog (TpuEff nD τ sig (Elt F) Λ₀ .tc) α} {β : Type}
    {e : TpuEff nD τ sig (Elt F) Λ₀ .tc β} {k : β → Prog (TpuEff nD τ sig (Elt F) Λ₀ .tc) α} (hp : p = .op e k)
    (h : P ⊢ WP c (.op e k) Q) : P ⊢ WP c p Q := hp ▸ h

/-- Reading which device one is. -/
theorem step_device {P : sProp (MT nD τ sig Unit (Elt F) ℕ UU ℕ)} {k : Dev nD → Prog (TpuEff nD τ sig (Elt F) Λ₀ .tc) α}
    (h : P ⊢ WP c (k c) Q) : P ⊢ WP c (.op .deviceId k) Q := by
  unfold WP at h ⊢
  rw [wp_deviceId]; exact h

/-- A signal to the barrier of the peer `d` places on. -/
theorem step_signal (hd : d ≠ 0) {n : Dev nD} (hn : n = peer c d) {w : ℤ} (hw : w = ((1 : ℕ) : ℤ))
    (h : iprop(ctx m ρ K ∗ (owesX c (oweBar c l O) ∗ bigSepL l (toSignal c)) ∗ R) ⊢ WP c (k ⟨⟩) Q) :
    iprop(ctx m ρ K ∗ (owesX c (oweBar c (d :: l) O) ∗ bigSepL (d :: l) (toSignal c)) ∗ R)
      ⊢ WP c (.op (.semSignal (n : Thread nD τ) barS w) k) Q := by
  rw [hn, hw, bigSepL_cons']
  unfold WP at h ⊢
  unfold owesX toSignal ctx at h ⊢
  iintro ⟨⟨#HI, #HL⟩, ⟨⟨%W, HO⟩, ⟨Ht, Hp⟩, Hl⟩, HR⟩
  iapply (Rounds.wp_signal 𝒱₀ ER (Rd m ρ) (c : Thread nD τ) none (dst := (peer c d : Thread nD τ)) (κ := K (peer c d, none))
      (by rw [duties_bar]; exact Finset.mem_erase.mpr ⟨(peer_ne c d hd).symm, Finset.mem_univ _⟩) (amount_bar m ρ (peer c d) c) () (oweBar c l O) rfl)
    $$ [HO Ht Hp]
  · isplitr; · iapply (recs_inv m ρ K (peer c d, none)); iexact HI
    isplitl [HO]; · iexact HO
    isplitl [Ht]; · iexact Ht
    isplitl [Hp]; · rw [payload_bar]; iexact Hp
    iapply (recs_reached m ρ K (peer c d, none)); iexact HI
  iintro HO
  iapply h
  isplitr
  · isplitr; · iexact HI
    iexact HL
  isplitr [HR]
  · isplitl [HO]; · iexists W; iexact HO
    iexact Hl
  iexact HR

/-- The wait for every peer's signal: each peer's landing slot for `c` and each peer's row block `c` come with it. -/
theorem step_barrier (hO : Above 1 O) {w : ℤ} (hw : w = ((15 : ℕ) : ℤ))
    (h : iprop(ctx m ρ K ∗ (owesX c O ∗ atPos ER (barCell c) 1 ∅ 0 ∗ bigSep (Finset.univ.erase c) fun p => barPay c p) ∗ R) ⊢ WP c (k ⟨⟩) Q) :
    iprop(ctx m ρ K ∗ (owesX c O ∗ atPos ER (barCell c) 0 ∅ 0 ∗ cred (tallyAt (barCell c) () 15)) ∗ R)
      ⊢ WP c (.op (.semWait barS w) k) Q := by
  subst hw
  unfold WP at h ⊢
  unfold owesX ctx at h ⊢
  iintro ⟨⟨#HI, #HL⟩, ⟨⟨%W, HO⟩, Hat, Hc⟩, HR⟩
  iapply (Rounds.wp_wait_rest_token 𝒱₀ ER (Rd m ρ) (c : Thread nD τ) none (κ := K (c, none))
      (wpE_semWait_eq 𝒱₀ (c : Thread nD τ) none Set.univ) (Set.mem_univ _) () (O := O) (W := W) (R := 0) (m := 0) (T := ∅)
      (by rw [expect_bar])) $$ [Hc HO Hat]
  · isplitr; · iapply (recs_inv m ρ K (c, none)); iexact HI
    isplitl [Hc]; · iexact Hc
    isplitl [HO]; · iexact HO
    isplitr; · iapply (mayWait c (.reg barS) 1 le_rfl O hO); iexact HL
    iexact Hat
  iintro ⟨HO, Hat, -, Hpay⟩
  ihave Hpay := (Entails.of_eq (rest_bar m ρ c)) $$ Hpay
  iapply h
  isplitr
  · isplitr; · iexact HI
    iexact HL
  isplitr [HR]
  · isplitl [HO]; · iexists _; iexact HO
    isplitl [Hat]; · iexact Hat
    iexact Hpay
  iexact HR

/-- What a transfer to the peer `d` places on needs, beyond what is owed: the source's elements, the peer's
    destination elements, and the two cells' tokens. -/
def toSend (ka kb : Fin 4) (c : Dev nD) (src dst : Dev nD → sProp 𝕄) (d : Dev nD) : sProp 𝕄 :=
  iprop(src d ∗ dst d ∗ dutyTok ER (dCell ka c (peer c d)) 0 (0 : Dev nD) ∗ dutyTok ER (dCell kb (peer c d) c) 0 (0 : Dev nD))
/-- The credit a transfer leaves its sender, to wait for it with. -/
def sent (ka : Fin 4) (c d : Dev nD) : sProp 𝕄 := cred (tallyAt (dCell ka c (peer c d)) () N)

/-- A landing slot of the peer, and row block `c` of the peer's result, at some contents. -/
def slotAny (c d : Dev nD) : sProp 𝕄 := iprop(∃ f, rSlot (F := F) (peer c d) c f)
def rowAny (c d : Dev nD) : sProp 𝕄 := iprop(∃ f, oRow (F := F) (peer c d) c fullShare f)

/-- A block's transfer credits the same through every view. -/
theorem credit_rS (j : Fin 16) : (rS j).view.dmaCredit = N := rfl
theorem credit_oR (j : Fin 16) : (oR j).view.dmaCredit = N := rfl

/-- The transfer of row block `peer c d` of `c`'s input to `c`'s slot at that peer. -/
theorem step_scatter (hd : d ≠ 0) {n : Dev nD} (hn : n = peer c d)
    {src dst : Memref sig .tc .vmem S16x256 .f32} {s1 s2 : DmaSem sig}
    (hs : src = xR (peer c d)) (ht : dst = rS c) (h1 : s1 = dsem 0 (peer c d)) (h2 : s2 = dsem 1 c) {hsc hsrc hdst hsem}
    (h : iprop(ctx m ρ K ∗ (owesX c (oweRs c l O) ∗ bigSepL l (toSend 0 1 c (fun d => xRow m ρ c (peer c d)) (slotAny c))
        ∗ bigSepL (d :: dn) (sent (F := F) 0 c)) ∗ R) ⊢ WP c (k ⟨⟩) Q) :
    iprop(ctx m ρ K ∗ (owesX c (oweRs c (d :: l) O) ∗ bigSepL (d :: l) (toSend 0 1 c (fun d => xRow m ρ c (peer c d)) (slotAny c))
        ∗ bigSepL dn (sent (F := F) 0 c)) ∗ R)
      ⊢ WP c (.op (.enqueueDma src (.remote (Dev.tc n : Thread nD τ) dst (.dma s1) hsc) (.dma s2) hsrc hdst hsem) k) Q := by
  subst hs ht h1 h2 hn
  rw [bigSepL_cons'] at h ⊢
  unfold WP at h ⊢
  unfold owesX ctx toSend slotAny sent at h ⊢
  have hne := peer_ne c d hd
  iintro ⟨⟨#HI, #HL⟩, ⟨⟨%W, HO⟩, ⟨⟨Hs, ⟨%fd, Hd⟩, Ht1, Ht2⟩, Hl⟩, Hdn⟩, HR⟩
  unfold xRow rSlot at h ⊢
  iapply (Rounds.wp_send_pointsTo 𝒱₀ ER (Rd m ρ) (c : Thread nD τ) none (κ₁ := K (c, some (0, peer c d))) (κ₂ := K (peer c d, some (1, c)))
    (r₁ := 0) (r₂ := 0) (d₁ := (0 : Dev nD)) (d₂ := (0 : Dev nD)) (fd := fd) (c' := (peer c d : Thread nD τ)) (src := xR (peer c d)) (dst := rS c) (sS := .dma (dsem 0 (peer c d))) (sem := .dma (dsem 1 c))
    (by rw [duties_d m ρ _ _ _ hne]; exact Finset.mem_singleton_self _) (by rw [duties_d m ρ _ _ _ hne.symm]; exact Finset.mem_singleton_self _)
    () () N (credit_rS c) (amount_d m ρ c 0 (peer c d) 0) (amount_d m ρ (peer c d) 1 c 0) (oweRs c l O) rfl (W := W)
    (by rw [payload_d]; exact BI.Entails.refl _)
    (by
      rw [payload_d]
      show _ ⊢ rsGot m ρ (peer c d) c
      unfold rsGot rSlot
      iintro H
      iexists ((rS c).view.write (Elt F) fd ((xR (peer c d)).view.read (Elt F) (xstg m ρ c)) Finset.univ)
      isplitr
      · ipureintro; exact View.read_write_univ _ _
      iexact H)) $$ [Hs Hd HO Ht1 Ht2]
  · isplitr; · iapply (recs_inv m ρ K (c, some (0, peer c d))); iexact HI
    isplitr; · iapply (recs_inv m ρ K (peer c d, some (1, c))); iexact HI
    isplitl [Hs]; · iexact Hs
    isplitl [Hd]; · iexact Hd
    isplitl [HO]; · iexact HO
    isplitl [Ht1]; · iexact Ht1
    isplitr; · iapply (recs_reached m ρ K (c, some (0, peer c d))); iexact HI
    isplitl [Ht2]; · iexact Ht2
    iapply (recs_reached m ρ K (peer c d, some (1, c))); iexact HI
  iintro ⟨Hc, HO⟩
  iapply h
  isplitr
  · isplitr; · iexact HI
    iexact HL
  isplitr [HR]
  · isplitl [HO]; · iexists _; iexact HO
    isplitl [Hl]; · iexact Hl
    isplitl [Hc]; · iexact Hc
    iexact Hdn
  iexact HR

omit [FloatOps F] in
/-- A row block of the result written with itself is itself. -/
theorem oRow_write (p j : Dev nD) (f g : (cc0_stg1_0 : Ref sig .tc).ty.Contents (Elt F)) :
    oRow (F := F) p j fullShare ((oR j).view.write (Elt F) f ((oR j).view.read (Elt F) g) Finset.univ) = oRow p j fullShare g := by
  unfold oRow
  refine pointsTo_congr fun i hi => ?_
  obtain ⟨y, -, rfl⟩ := Finset.mem_map.mp hi
  rw [View.write_emb_of_mem _ _ (Finset.mem_univ y)]
  rfl

/-- The transfer of `c`'s sum to row block `c` of the result of the peer `d` places on. -/
theorem step_gather (hd : d ≠ 0) {n : Dev nD} (hn : n = peer c d)
    {src dst : Memref sig .tc .vmem S16x256 .f32} {s1 s2 : DmaSem sig}
    (hs : src = oR c) (ht : dst = oR c) (h1 : s1 = dsem 2 (peer c d)) (h2 : s2 = dsem 3 c) {hsc hsrc hdst hsem}
    (h : iprop(ctx m ρ K ∗ (owesX c (oweAg c l O) ∗ bigSepL l (toSend 2 3 c (fun d => oRow c c (piece (peer c d)) (fin m ρ)) (rowAny c))
        ∗ bigSepL (d :: dn) (sent (F := F) 2 c)) ∗ R) ⊢ WP c (k ⟨⟩) Q) :
    iprop(ctx m ρ K ∗ (owesX c (oweAg c (d :: l) O) ∗ bigSepL (d :: l) (toSend 2 3 c (fun d => oRow c c (piece (peer c d)) (fin m ρ)) (rowAny c))
        ∗ bigSepL dn (sent (F := F) 2 c)) ∗ R)
      ⊢ WP c (.op (.enqueueDma src (.remote (Dev.tc n : Thread nD τ) dst (.dma s1) hsc) (.dma s2) hsrc hdst hsem) k) Q := by
  subst hs ht h1 h2 hn
  rw [bigSepL_cons'] at h ⊢
  unfold WP at h ⊢
  unfold owesX ctx toSend rowAny sent at h ⊢
  have hne := peer_ne c d hd
  iintro ⟨⟨#HI, #HL⟩, ⟨⟨%W, HO⟩, ⟨⟨Hs, ⟨%fd, Hd⟩, Ht1, Ht2⟩, Hl⟩, Hdn⟩, HR⟩
  unfold oRow at h ⊢
  iapply (Rounds.wp_send_pointsTo 𝒱₀ ER (Rd m ρ) (c : Thread nD τ) none (κ₁ := K (c, some (2, peer c d))) (κ₂ := K (peer c d, some (3, c)))
    (r₁ := 0) (r₂ := 0) (d₁ := (0 : Dev nD)) (d₂ := (0 : Dev nD)) (fd := fd) (c' := (peer c d : Thread nD τ)) (src := oR c) (dst := oR c) (sS := .dma (dsem 2 (peer c d))) (sem := .dma (dsem 3 c))
    (by rw [duties_d m ρ _ _ _ hne]; exact Finset.mem_singleton_self _) (by rw [duties_d m ρ _ _ _ hne.symm]; exact Finset.mem_singleton_self _)
    () () N (credit_oR c) (amount_d m ρ c 2 (peer c d) 0) (amount_d m ρ (peer c d) 3 c 0) (oweAg c l O) rfl (W := W)
    (by rw [payload_d]; exact BI.Entails.refl _)
    (by
      rw [payload_d]
      exact Entails.of_eq (oRow_write (peer c d) c fd (fin m ρ)))) $$ [Hs Hd HO Ht1 Ht2]
  · isplitr; · iapply (recs_inv m ρ K (c, some (2, peer c d))); iexact HI
    isplitr; · iapply (recs_inv m ρ K (peer c d, some (3, c))); iexact HI
    isplitl [Hs]; · iexact Hs
    isplitl [Hd]; · iexact Hd
    isplitl [HO]; · iexact HO
    isplitl [Ht1]; · iexact Ht1
    isplitr; · iapply (recs_reached m ρ K (c, some (2, peer c d))); iexact HI
    isplitl [Ht2]; · iexact Ht2
    iapply (recs_reached m ρ K (peer c d, some (3, c))); iexact HI
  iintro ⟨Hc, HO⟩
  iapply h
  isplitr
  · isplitr; · iexact HI
    iexact HL
  isplitr [HR]
  · isplitl [HO]; · iexists _; iexact HO
    isplitl [Hl]; · iexact Hl
    isplitl [Hc]; · iexact Hc
    iexact Hdn
  iexact HR

/-- A wait still to make on member `peer c d` of family `kk`: its credit and its position. -/
def toWait (kk : Fin 4) (c d : Dev nD) : sProp 𝕄 :=
  iprop(cred (tallyAt (dCell kk c (peer c d)) () N) ∗ atPos ER (dCell kk c (peer c d)) 0 ∅ 0)
variable (m ρ) in
/-- A wait made: what the arrival handed over, and the cell past its one round. -/
def waited (kk : Fin 4) (c d : Dev nD) : sProp 𝕄 :=
  iprop(dPay m ρ c kk (peer c d) ∗ atPos ER (dCell kk c (peer c d)) 1 ∅ 0)

/-- The wait for one transfer on member `peer c d` of family `kk`. -/
theorem step_wait (kk : Fin 4) (hd : d ≠ 0) (n : ℕ) (hlv : lv (dCell kk c (peer c d)) () ≤ n) (hO : Above n O)
    {sp sp' : Space} {s s' : Shape} {e e' : EltTy} {src : Memref sig .tc sp' s' e'} {dst : Memref sig .tc sp s e} {sm : DmaSem sig}
    {hsrc : src.view.WordExact} {hdst : dst.view.WordExact}
    (hN : dst.view.dmaCredit = N) (hs : sm = dsem kk (peer c d))
    (h : iprop(ctx m ρ K ∗ (owesX c O ∗ bigSepL l (toWait (F := F) kk c) ∗ bigSepL (d :: dn) (waited m ρ kk c)) ∗ R) ⊢ WP c (k ⟨⟩) Q) :
    iprop(ctx m ρ K ∗ (owesX c O ∗ bigSepL (d :: l) (toWait (F := F) kk c) ∗ bigSepL dn (waited m ρ kk c)) ∗ R)
      ⊢ WP c (.op (.waitDma2 sm src dst hsrc hdst) k) Q := by
  subst hs
  rw [bigSepL_cons'] at h ⊢
  unfold WP at h ⊢
  unfold owesX ctx toWait waited at h ⊢
  have hne := peer_ne c d hd
  iintro ⟨⟨#HI, #HL⟩, ⟨⟨%W, HO⟩, ⟨⟨Hc, Hat⟩, Hl⟩, Hdn⟩, HR⟩
  iapply (Rounds.wp_wait_rest_token 𝒱₀ ER (Rd m ρ) (c : Thread nD τ) none (κ := K (c, some (kk, peer c d)))
      (wpE_waitDma2_eq 𝒱₀ (c : Thread nD τ) none Set.univ) (Set.mem_univ _) () (O := O) (W := W) (R := 0) (m := 0) (T := ∅)
      (by rw [expect_d m ρ c kk _ hne, hN, Nat.zero_add])) $$ [Hc HO Hat]
  · isplitr; · iapply (recs_inv m ρ K (c, some (kk, peer c d))); iexact HI
    isplitl [Hc]; · rw [hN]; iexact Hc
    isplitl [HO]; · iexact HO
    isplitr; · iapply (mayWait c (.dma (dsem kk (peer c d))) n hlv O hO); iexact HL
    iexact Hat
  iintro ⟨HO, Hat, -, Hpay⟩
  ihave Hpay := (Entails.of_eq (rest_d m ρ c kk (peer c d) hne)) $$ Hpay
  iapply h
  isplitr
  · isplitr; · iexact HI
    iexact HL
  isplitr [HR]
  · isplitl [HO]; · iexists _; iexact HO
    isplitl [Hl]; · iexact Hl
    isplitr [Hdn]
    · isplitl [Hpay]; · iexact Hpay
      iexact Hat
    iexact Hdn
  iexact HR

/-- The load of the slot a transfer has just filled: what is read is the peer's row block `c`. -/
theorem step_slot {o : Fin 3 → ℕ} {ho : ∀ a, o a + S1x16x256.size a ≤ S16x16x256.size a} (e : o = ![(peer c d).val, 0, 0])
    {hl : (Memref.whole cc0_scratch0 : Memref sig .tc .vmem S16x16x256 .f32).view.LoadsAt (Rect.unit (s := S16x16x256) o S1x16x256.size ho).toLoadRect}
    {X : sProp (MT nD τ sig Unit (Elt F) ℕ UU ℕ)}
    {k : Vec F S1x16x256 .f32 → Prog (TpuEff nD τ sig (Elt F) Λ₀ .tc) α}
    (h : ∀ v : Vec F S1x16x256 .f32, shapeCast S16x256 v shapeCasts_S1x16x256_S16x256 = blk m ρ (peer c d) c →
      iprop(ctx m ρ K ∗ (owesX c O ∗ X ∗ bigSepL (d :: dn) (waited m ρ 1 c)) ∗ R) ⊢ WP c (k v) Q) :
    iprop(ctx m ρ K ∗ (owesX c O ∗ X ∗ bigSepL (d :: dn) (waited m ρ 1 c)) ∗ R)
      ⊢ WP c (.op (.load (Memref.whole cc0_scratch0) (Rect.unit (s := S16x16x256) o S1x16x256.size ho).toLoadRect hl) k) Q := by
  subst e
  rw [bigSepL_cons'] at h ⊢
  unfold WP at h ⊢
  unfold waited at h ⊢
  show iprop(ctx m ρ K ∗ (owesX c O ∗ X ∗ (rsGot m ρ c (peer c d) ∗ _) ∗ _) ∗ R) ⊢ _
  have h' : ∀ v : Vec F S1x16x256 .f32, shapeCast S16x256 v shapeCasts_S1x16x256_S16x256 = blk m ρ (peer c d) c →
      iprop(ctx m ρ K ∗ (owesX c O ∗ X ∗ (rsGot m ρ c (peer c d) ∗ _) ∗ _) ∗ R) ⊢ _ := h
  unfold rsGot rSlot at h' ⊢
  iintro ⟨Hctx, ⟨HO, HX, ⟨⟨%f, %hf, Hf⟩, Hat⟩, Hdn⟩, HR⟩
  iapply (wp_load 𝒱₀ (c : Thread nD τ) none Set.univ (m := Memref.whole cc0_scratch0)
    (by rw [View.set_reshape]; exact (View.set_slice _ _).ge)) $$ Hf
  iintro Hf
  iapply (h' ((Memref.whole cc0_scratch0).view.readAt (Elt F) (slotRect (peer c d)).toLoadRect f) hf)
  isplitl [Hctx]; · iexact Hctx
  isplitr [HR]
  · isplitl [HO]; · iexact HO
    isplitl [HX]; · iexact HX
    isplitr [Hdn]
    · isplitl [Hf]
      · iexists f; isplitr; · ipureintro; exact hf
        iexact Hf
      iexact Hat
    iexact Hdn
  iexact HR

/-- The load of the device's own row block of its input. -/
theorem step_own {o : Fin 2 → ℕ} {ho : ∀ a, o a + S16x256.size a ≤ S256x256.size a} (e : o = ![16 * c.val, 0])
    {hl : (Memref.whole cc0_stg0_0 : Memref sig .tc .vmem S256x256 .f32).view.LoadsAt (Rect.unit (s := S256x256) o S16x256.size ho).toLoadRect}
    {k : Vec F S16x256 .f32 → Prog (TpuEff nD τ sig (Elt F) Λ₀ .tc) α}
    (h : ∀ v : Vec F S16x256 .f32, v = blk m ρ c c → iprop(ctx m ρ K ∗ xRow m ρ c c ∗ R) ⊢ WP c (k v) Q) :
    iprop(ctx m ρ K ∗ xRow m ρ c c ∗ R)
      ⊢ WP c (.op (.load (Memref.whole cc0_stg0_0) (Rect.unit (s := S256x256) o S16x256.size ho).toLoadRect hl) k) Q := by
  subst e
  unfold WP at h ⊢
  unfold xRow at h ⊢
  iintro ⟨Hctx, Hf, HR⟩
  iapply (wp_load 𝒱₀ (c : Thread nD τ) none Set.univ (m := Memref.whole cc0_stg0_0) (View.set_slice _ _).ge) $$ Hf
  iintro Hf
  iapply (h ((Memref.whole cc0_stg0_0).view.readAt (Elt F) (rowRect c).toLoadRect (xstg m ρ c)) rfl)
  isplitl [Hctx]; · iexact Hctx
  isplitl [Hf]; · iexact Hf
  iexact HR

/-- Row block `c` of the result written with the device's sum. -/
theorem oRow_store (c : Dev nD) (f : (cc0_stg1_0 : Ref sig .tc).ty.Contents (Elt F)) :
    oRow (F := F) c c fullShare ((oR c).view.write (Elt F) f (acc m ρ c) Finset.univ) = oRow c c fullShare (fin m ρ) := by
  unfold oRow
  refine pointsTo_congr fun i hi => ?_
  obtain ⟨y, -, rfl⟩ := Finset.mem_map.mp hi
  rw [View.write_emb_of_mem _ _ (Finset.mem_univ y), fin_row]
  exact cast_eq _ _

/-- The load of the device's own row block of the result, whatever it holds. -/
theorem step_peek {o : Fin 2 → ℕ} {ho : ∀ a, o a + S16x256.size a ≤ S256x256.size a} (e : o = ![16 * c.val, 0])
    {hl : (Memref.whole cc0_stg1_0 : Memref sig .tc .vmem S256x256 .f32).view.LoadsAt (Rect.unit (s := S256x256) o S16x256.size ho).toLoadRect}
    {k : Vec F S16x256 .f32 → Prog (TpuEff nD τ sig (Elt F) Λ₀ .tc) α}
    (h : ∀ v : Vec F S16x256 .f32, iprop(ctx m ρ K ∗ (∃ f, oRow c c fullShare f) ∗ R) ⊢ WP c (k v) Q) :
    iprop(ctx m ρ K ∗ (∃ f, oRow c c fullShare f) ∗ R)
      ⊢ WP c (.op (.load (Memref.whole cc0_stg1_0) (Rect.unit (s := S256x256) o S16x256.size ho).toLoadRect hl) k) Q := by
  subst e
  unfold WP at h ⊢
  unfold oRow at h ⊢
  iintro ⟨Hctx, ⟨%f, Hf⟩, HR⟩
  iapply (wp_load 𝒱₀ (c : Thread nD τ) none Set.univ (m := Memref.whole cc0_stg1_0) (View.set_slice _ _).ge) $$ Hf
  iintro Hf
  iapply (h ((Memref.whole cc0_stg1_0).view.readAt (Elt F) (rowRect c).toLoadRect f))
  isplitl [Hctx]; · iexact Hctx
  isplitl [Hf]; · iexists f; iexact Hf
  iexact HR

/-- The store of the device's sum to its own row block of the result. -/
theorem step_out {o : Fin 2 → ℕ} {ho : ∀ a, o a + S16x256.size a ≤ S256x256.size a} (e : o = ![16 * c.val, 0])
    {w : FVec F S16x256 .f32} (hw : w = acc m ρ c) {hst hst'}
    (h : iprop(ctx m ρ K ∗ oRow c c fullShare (fin m ρ) ∗ R) ⊢ WP c (k ⟨⟩) Q) :
    iprop(ctx m ρ K ∗ (∃ f, oRow c c fullShare f) ∗ R)
      ⊢ WP c (.op (.store (Memref.whole cc0_stg1_0) (Rect.unit (s := S256x256) o S16x256.size ho) w Finset.univ hst hst') k) Q := by
  subst e hw
  unfold WP at h ⊢
  iintro ⟨Hctx, ⟨%f, Hf⟩, HR⟩
  unfold oRow
  iapply (wp_store 𝒱₀ (c : Thread nD τ) none Set.univ (m := Memref.whole cc0_stg1_0) (r := rowRect c) (w := acc m ρ c)
    (Mk := Finset.univ) (hx := hst) (hm := hst') (k := k) (S := (oR c).view.set) (f := f) (Finset.Subset.refl _)) $$ [Hf]
  · iexact Hf
  iintro Hf
  iapply h
  isplitl [Hctx]; · iexact Hctx
  isplitl [Hf]; · iapply (Entails.of_eq (oRow_store c f)); unfold oRow; iexact Hf
  iexact HR

end StepLemmas

end Cert.Exch
-- ==== Proof.Body.lean ====
/- The kernel body of one device, walked operation by operation from what the launch gives it to what it leaves. -/
module

public import proofs.«01_k».proof.Proof.Steps
public import Idealize.ShloMosaic.Lib.Pipeline.Value

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## Lists of assertions -/

/-- A list of assertions in another order. -/
theorem reorder {l l' : List (Dev nD)} (h : l.toFinset = l'.toFinset) (hn : l.Nodup) (hn' : l'.Nodup) (Φ : Dev nD → sProp 𝕄) :
    bigSepL l Φ ⊢ bigSepL l' Φ :=
  Entails.of_eq ((bigSep_eq_bigSepL_of_eq l rfl hn Φ).symm.trans (bigSep_eq_bigSepL_of_eq l' h hn' Φ))

/-- Two lists of assertions joined member by member. -/
theorem zip {A B C : Dev nD → sProp 𝕄} (h : ∀ d, iprop(A d ∗ B d) ⊢ C d) : ∀ l, iprop(bigSepL l A ∗ bigSepL l B) ⊢ bigSepL l C
  | [] => sep_elim_left
  | d :: l => by
    rw [bigSepL_cons', bigSepL_cons', bigSepL_cons']
    iintro ⟨⟨Ha, Hla⟩, ⟨Hb, Hlb⟩⟩
    isplitl [Ha Hb]
    · iapply (h d); isplitl [Ha]; · iexact Ha
      iexact Hb
    · iapply (zip h l); isplitl [Hla]; · iexact Hla
      iexact Hlb

/-- A list of pairs of assertions taken apart. -/
theorem unzip {A B C : Dev nD → sProp 𝕄} (h : ∀ d, C d ⊢ iprop(A d ∗ B d)) : ∀ l, bigSepL l C ⊢ iprop(bigSepL l A ∗ bigSepL l B)
  | [] => by
    show (emp : sProp 𝕄) ⊢ iprop(emp ∗ emp)
    iintro -
    isplitl [] <;> iempintro
  | d :: l => by
    rw [bigSepL_cons', bigSepL_cons', bigSepL_cons']
    iintro ⟨Hc, Hl⟩
    ihave Hc := (h d) $$ Hc
    ihave Hl := (unzip h l) $$ Hl
    icases Hc with ⟨Ha, Hb⟩
    icases Hl with ⟨Hla, Hlb⟩
    isplitl [Ha Hla]
    · isplitl [Ha]; · iexact Ha
      iexact Hla
    · isplitl [Hb]; · iexact Hb
      iexact Hlb

/-- What the barrier hands over, by offsets: the peers' landing slots, and their row blocks. -/
theorem barPays (c : Dev nD) :
    (bigSep (Finset.univ.erase c) fun p => barPay (F := F) c p) ⊢ iprop(bigSepL farL (slotAny (F := F) c) ∗ bigSepL farL (rowAny (F := F) c)) :=
  (Entails.of_eq (around c farL (by decide +kernel) (by decide +kernel) fun p => barPay (F := F) c p).symm).trans
    (unzip (fun d => .rfl) farL)

/-- The device's row block of the result, dealt into the pieces its transfers carry and the piece it keeps. -/
theorem deal (c : Dev nD) :
    oRow (F := F) c c fullShare (fin m ρ) ⊢ iprop(oRow c c (piece c) (fin m ρ) ∗ bigSepL farL fun d => oRow c c (piece (peer c d)) (fin m ρ)) := by
  rw [around c farL (by decide +kernel) (by decide +kernel) fun p => oRow (F := F) c c (piece p) (fin m ρ)]
  rw [← bigSep_univ_at (fun p => oRow (F := F) c c (piece p) (fin m ρ)) c]
  exact Entails.of_eq (Transfers.pointsTo_deal _ ⟨c, Finset.mem_univ _⟩ _)

/-! ## What a device starts with and what it leaves -/

section States
variable (c : Dev nD)

/-- What a scatter transfer needs from `c`'s own side: the row block, and the two cells' tokens. -/
def toScatter (d : Dev nD) : sProp 𝕄 :=
  iprop(xRow m ρ c (peer c d) ∗ dutyTok ER (dCell 0 c (peer c d)) 0 (0 : Dev nD) ∗ dutyTok ER (dCell 1 (peer c d) c) 0 (0 : Dev nD))
/-- The tokens of a gather transfer's two cells. -/
def toGather (d : Dev nD) : sProp 𝕄 :=
  iprop(dutyTok ER (dCell 2 c (peer c d)) 0 (0 : Dev nD) ∗ dutyTok ER (dCell 3 (peer c d) c) 0 (0 : Dev nD))
/-- A cell at its start. -/
def atStart (k : Fin 4) (d : Dev nD) : sProp 𝕄 := atPos ER (dCell k c (peer c d)) 0 ∅ 0

/-- What the body of device `c` starts with. -/
def start : sProp 𝕄 :=
  iprop(owesX c (O₀ c) ∗ bigSepL seqL (toSignal c) ∗ (atPos ER (barCell c) 0 ∅ 0 ∗ cred (tallyAt (barCell c) () 15))
    ∗ bigSepL farL (toScatter m ρ c) ∗ xRow m ρ c c ∗ (∃ f, oRow c c fullShare f) ∗ bigSepL farL (toGather c)
    ∗ bigSepL seqL (toWait 1 c) ∗ bigSepL seqL (toWait 3 c) ∗ bigSepL farL (atStart c 0) ∗ bigSepL farL (atStart c 2))

/-- What it leaves. -/
def done : sProp 𝕄 :=
  iprop(owesX c 0 ∗ atPos ER (barCell c) 1 ∅ 0 ∗ xRow m ρ c c ∗ oRow c c (piece c) (fin m ρ)
    ∗ bigSepL farL.reverse (waited m ρ 0 c) ∗ bigSepL seqL.reverse (waited m ρ 1 c)
    ∗ bigSepL farL.reverse (waited m ρ 2 c) ∗ bigSepL seqL.reverse (waited m ρ 3 c))
end States

theorem scatter_of (c d : Dev nD) : iprop(slotAny (F := F) c d ∗ toScatter m ρ c d)
    ⊢ toSend 0 1 c (fun d => xRow m ρ c (peer c d)) (slotAny c) d := by
  unfold toScatter toSend
  iintro ⟨Hs, Hx, Ht⟩
  isplitl [Hx]; · iexact Hx
  isplitl [Hs]; · iexact Hs
  iexact Ht
theorem gather_of (c d : Dev nD) : iprop((oRow (F := F) c c (piece (peer c d)) (fin m ρ) ∗ rowAny c d) ∗ toGather c d)
    ⊢ toSend 2 3 c (fun d => oRow c c (piece (peer c d)) (fin m ρ)) (rowAny c) d := by
  unfold toGather toSend
  iintro ⟨⟨Ho, Hr⟩, Ht⟩
  isplitl [Ho]; · iexact Ho
  isplitl [Hr]; · iexact Hr
  iexact Ht
/-- The end of a program. -/
theorem fin_ret {c : Dev nD} {α : Type} {a : α} {p : Prog (TpuEff nD τ sig (Elt F) Λ₀ .tc) α} {P : sProp 𝕄} {Q : α → sProp 𝕄}
    (hp : p = .ret a) (h : P ⊢ iprop(|={Set.univ}=> Q a)) : P ⊢ WP c p Q := by
  subst hp
  unfold WP
  rw [wp_ret]; exact h

/-- The additions, in the order in which they are made. -/
theorem total {c : Dev nD} {v0 : Vec F S16x256 .f32} {v1 v2 v3 v4 v5 v6 v7 v8 v9 v10 v11 v12 v13 v14 v15 : Vec F S1x16x256 .f32}
    (h0 : v0 = blk m ρ c c) (h1 : shapeCast S16x256 v1 shapeCasts_S1x16x256_S16x256 = blk m ρ (peer c 1) c) (h2 : shapeCast S16x256 v2 shapeCasts_S1x16x256_S16x256 = blk m ρ (peer c 2) c) (h3 : shapeCast S16x256 v3 shapeCasts_S1x16x256_S16x256 = blk m ρ (peer c 3) c) (h4 : shapeCast S16x256 v4 shapeCasts_S1x16x256_S16x256 = blk m ρ (peer c 4) c) (h5 : shapeCast S16x256 v5 shapeCasts_S1x16x256_S16x256 = blk m ρ (peer c 5) c) (h6 : shapeCast S16x256 v6 shapeCasts_S1x16x256_S16x256 = blk m ρ (peer c 6) c) (h7 : shapeCast S16x256 v7 shapeCasts_S1x16x256_S16x256 = blk m ρ (peer c 7) c) (h8 : shapeCast S16x256 v8 shapeCasts_S1x16x256_S16x256 = blk m ρ (peer c 8) c) (h9 : shapeCast S16x256 v9 shapeCasts_S1x16x256_S16x256 = blk m ρ (peer c 9) c) (h10 : shapeCast S16x256 v10 shapeCasts_S1x16x256_S16x256 = blk m ρ (peer c 10) c) (h11 : shapeCast S16x256 v11 shapeCasts_S1x16x256_S16x256 = blk m ρ (peer c 11) c) (h12 : shapeCast S16x256 v12 shapeCasts_S1x16x256_S16x256 = blk m ρ (peer c 12) c) (h13 : shapeCast S16x256 v13 shapeCasts_S1x16x256_S16x256 = blk m ρ (peer c 13) c) (h14 : shapeCast S16x256 v14 shapeCasts_S1x16x256_S16x256 = blk m ρ (peer c 14) c) (h15 : shapeCast S16x256 v15 shapeCasts_S1x16x256_S16x256 = blk m ρ (peer c 15) c) :
    k0_pay10 (k0_pay9 (k0_pay8 (k0_pay7 (k0_pay6 (k0_pay5 (k0_pay4 (k0_pay3 (k0_pay2 (k0_pay1 v0 v1) v2 v3) v4) v5 v6) v7) v8 v9) v10) v11 v12) v13) v14 v15 = acc m ρ c := by
  unfold k0_pay10 k0_pay9 k0_pay8 k0_pay7 k0_pay6 k0_pay5 k0_pay4 k0_pay3 k0_pay2 k0_pay1
  dsimp only
  rw [shapeCast_self, h0, h1, h2, h3, h4, h5, h6, h7, h8, h9, h10, h11, h12, h13, h14, h15]
  simp only [acc, accFrom, List.foldl]

/-! ## The walk -/

set_option maxHeartbeats 400000 in
set_option maxRecDepth 65536 in
/-- The whole body of a device: from what it starts with, it runs to what it leaves. -/
theorem run_body (K : Dev nD × CI → ℕ) (c : Dev nD) (Q : PUnit → sProp 𝕄) (R : sProp 𝕄)
    (h : iprop(ctx m ρ K ∗ done m ρ c ∗ R) ⊢ iprop(|={Set.univ}=> Q ⟨⟩)) :
    iprop(ctx m ρ K ∗ start m ρ c ∗ R)
      ⊢ WP c (cc0_body (F := F) (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4) Q := by
  simp only [cc0_body_eq_skeleton, cc0_body_skel, k0_part47_eq_skeleton, k0_part47_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
  have hag : Above 2 (oweAg c farL 0) := above_owe (above_zero _) (fun d => ⟨rfl, by rw [lv_d]; decide⟩) _
  unfold start
  refine head rfl ?_
  refine step_device ?_
  refine (show _ ⊢ iprop(ctx m ρ K ∗ (owesX c (oweBar c seqL (oweRs c farL (oweAg c farL 0))) ∗ bigSepL seqL (toSignal c)) ∗ (atPos ER (barCell c) 0 ∅ 0 ∗ cred (tallyAt (barCell c) () 15)) ∗ bigSepL farL (toScatter m ρ c) ∗ xRow m ρ c c ∗ (∃ f, oRow c c fullShare f) ∗ bigSepL farL (toGather c) ∗ bigSepL seqL (toWait 1 c) ∗ bigSepL seqL (toWait 3 c) ∗ bigSepL farL (atStart c 0) ∗ bigSepL farL (atStart c 2) ∗ R) from by
    iintro ⟨Hctx, ⟨HO, Hsig, Hb, Hs, Hx, Ho, Hg, Hw1, Hw3, Hp0, Hp2⟩, HR⟩
    isplitl [Hctx]; · iexact Hctx
    isplitl [HO Hsig]
    · isplitl [HO]; · iexact HO
      iexact Hsig
    isplitl [Hb]; · iexact Hb
    isplitl [Hs]; · iexact Hs
    isplitl [Hx]; · iexact Hx
    isplitl [Ho]; · iexact Ho
    isplitl [Hg]; · iexact Hg
    isplitl [Hw1]; · iexact Hw1
    isplitl [Hw3]; · iexact Hw3
    isplitl [Hp0]; · iexact Hp0
    isplitl [Hp2]; · iexact Hp2
    iexact HR).trans ?_
  iterate 15
    refine head rfl ?_
    refine step_signal (by decide +kernel) (by generalize c = c'; revert c'; decide +kernel) (by rfl) ?_
  refine (show _ ⊢ iprop(ctx m ρ K ∗ (owesX c (oweRs c farL (oweAg c farL 0)) ∗ atPos ER (barCell c) 0 ∅ 0 ∗ cred (tallyAt (barCell c) () 15)) ∗ bigSepL farL (toScatter m ρ c) ∗ xRow m ρ c c ∗ (∃ f, oRow c c fullShare f) ∗ bigSepL farL (toGather c) ∗ bigSepL seqL (toWait 1 c) ∗ bigSepL seqL (toWait 3 c) ∗ bigSepL farL (atStart c 0) ∗ bigSepL farL (atStart c 2) ∗ R) from by
    iintro ⟨Hctx, ⟨HO, -⟩, Hb, HR⟩
    isplitl [Hctx]; · iexact Hctx
    isplitl [HO Hb]
    · isplitl [HO]; · iexact HO
      iexact Hb
    iexact HR).trans ?_
  refine head rfl ?_
  refine step_barrier (above_owe (above_owe (above_zero _) (fun d => ⟨rfl, by rw [lv_d]; decide⟩) _) (fun d => ⟨rfl, by rw [lv_d]; decide⟩) _) (by rfl) ?_
  refine (show _ ⊢ iprop(ctx m ρ K ∗ (owesX c (oweRs c farL (oweAg c farL 0)) ∗ bigSepL farL (toSend 0 1 c (fun d => xRow m ρ c (peer c d)) (slotAny c)) ∗ bigSepL [] (sent 0 c)) ∗ atPos ER (barCell c) 1 ∅ 0 ∗ bigSepL farL (rowAny c) ∗ xRow m ρ c c ∗ (∃ f, oRow c c fullShare f) ∗ bigSepL farL (toGather c) ∗ bigSepL seqL (toWait 1 c) ∗ bigSepL seqL (toWait 3 c) ∗ bigSepL farL (atStart c 0) ∗ bigSepL farL (atStart c 2) ∗ R) from by
    iintro ⟨Hctx, ⟨HO, Hb, Hpay⟩, Hs, Hx, Ho, Hg, Hw1, Hw3, Hp0, Hp2, HR⟩
    isplitl [Hctx]; · iexact Hctx
    ihave Hpay := (barPays c) $$ Hpay
    icases Hpay with ⟨Hsl, Hrow⟩
    isplitl [HO Hsl Hs]
    · isplitl [HO]; · iexact HO
      isplitl
      · iapply (zip (A := slotAny c) (B := toScatter m ρ c) (scatter_of m ρ c) farL); isplitl [Hsl]; · iexact Hsl
        iexact Hs
      rw [bigSepL_nil]; iempintro
    isplitl [Hb]; · iexact Hb
    isplitl [Hrow]; · iexact Hrow
    isplitl [Hx]; · iexact Hx
    isplitl [Ho]; · iexact Ho
    isplitl [Hg]; · iexact Hg
    isplitl [Hw1]; · iexact Hw1
    isplitl [Hw3]; · iexact Hw3
    isplitl [Hp0]; · iexact Hp0
    isplitl [Hp2]; · iexact Hp2
    iexact HR).trans ?_
  iterate 15
    refine head rfl ?_
    refine step_scatter (by decide +kernel) (by generalize c = c'; revert c'; decide +kernel) (by refine xR_of ?_; exact off4_at rfl) (by refine rS_of ?_; exact off3_at c) (by refine sem_d 0 rfl ?_; exact off1_at rfl) (by refine sem_d 1 rfl ?_; exact off2_at c) ?_
  refine (show _ ⊢ iprop(ctx m ρ K ∗ xRow m ρ c c ∗ owesX c (oweAg c farL 0) ∗ bigSepL farL.reverse (sent 0 c) ∗ atPos ER (barCell c) 1 ∅ 0 ∗ bigSepL farL (rowAny c) ∗ (∃ f, oRow c c fullShare f) ∗ bigSepL farL (toGather c) ∗ bigSepL seqL (toWait 1 c) ∗ bigSepL seqL (toWait 3 c) ∗ bigSepL farL (atStart c 0) ∗ bigSepL farL (atStart c 2) ∗ R) from by
    iintro ⟨Hctx, ⟨HO, -, Hs⟩, Hb, Hrow, Hx, Ho, Hg, Hw1, Hw3, Hp0, Hp2, HR⟩
    isplitl [Hctx]; · iexact Hctx
    isplitl [Hx]; · iexact Hx
    isplitl [HO]; · iexact HO
    isplitl [Hs]; · iexact Hs
    isplitl [Hb]; · iexact Hb
    isplitl [Hrow]; · iexact Hrow
    isplitl [Ho]; · iexact Ho
    isplitl [Hg]; · iexact Hg
    isplitl [Hw1]; · iexact Hw1
    isplitl [Hw3]; · iexact Hw3
    isplitl [Hp0]; · iexact Hp0
    isplitl [Hp2]; · iexact Hp2
    iexact HR).trans ?_
  refine head rfl ?_
  refine step_own (by exact off5_at c) fun v0 h0 => ?_
  refine (show _ ⊢ iprop(ctx m ρ K ∗ (owesX c (oweAg c farL 0) ∗ bigSepL seqL (toWait 1 c) ∗ bigSepL [] (waited m ρ 1 c)) ∗ xRow m ρ c c ∗ bigSepL farL.reverse (sent 0 c) ∗ atPos ER (barCell c) 1 ∅ 0 ∗ bigSepL farL (rowAny c) ∗ (∃ f, oRow c c fullShare f) ∗ bigSepL farL (toGather c) ∗ bigSepL seqL (toWait 3 c) ∗ bigSepL farL (atStart c 0) ∗ bigSepL farL (atStart c 2) ∗ R) from by
    iintro ⟨Hctx, Hx, HO, Hs, Hb, Hrow, Ho, Hg, Hw1, Hw3, Hp0, Hp2, HR⟩
    isplitl [Hctx]; · iexact Hctx
    isplitl [HO Hw1]
    · isplitl [HO]; · iexact HO
      isplitl [Hw1]; · iexact Hw1
      rw [bigSepL_nil]; iempintro
    isplitl [Hx]; · iexact Hx
    isplitl [Hs]; · iexact Hs
    isplitl [Hb]; · iexact Hb
    isplitl [Hrow]; · iexact Hrow
    isplitl [Ho]; · iexact Ho
    isplitl [Hg]; · iexact Hg
    isplitl [Hw3]; · iexact Hw3
    isplitl [Hp0]; · iexact Hp0
    isplitl [Hp2]; · iexact Hp2
    iexact HR).trans ?_
  refine head rfl ?_
  refine step_wait 1 (by decide +kernel) 2 (by rw [lv_d]; decide) hag (by rfl) (by refine sem_d 1 rfl ?_; exact off1_at rfl) ?_
  refine head rfl ?_
  refine step_slot (by exact off7_at rfl) fun v1 h1 => ?_
  refine head rfl ?_
  refine step_wait 1 (by decide +kernel) 2 (by rw [lv_d]; decide) hag (by rfl) (by refine sem_d 1 rfl ?_; exact off1_at rfl) ?_
  refine head rfl ?_
  refine step_slot (by exact off7_at rfl) fun v2 h2 => ?_
  refine head rfl ?_
  refine step_wait 1 (by decide +kernel) 2 (by rw [lv_d]; decide) hag (by rfl) (by refine sem_d 1 rfl ?_; exact off1_at rfl) ?_
  refine head rfl ?_
  refine step_slot (by exact off7_at rfl) fun v3 h3 => ?_
  refine head rfl ?_
  refine step_wait 1 (by decide +kernel) 2 (by rw [lv_d]; decide) hag (by rfl) (by refine sem_d 1 rfl ?_; exact off1_at rfl) ?_
  refine head rfl ?_
  refine step_slot (by exact off7_at rfl) fun v4 h4 => ?_
  refine head rfl ?_
  refine step_wait 1 (by decide +kernel) 2 (by rw [lv_d]; decide) hag (by rfl) (by refine sem_d 1 rfl ?_; exact off1_at rfl) ?_
  refine head rfl ?_
  refine step_slot (by exact off7_at rfl) fun v5 h5 => ?_
  refine head rfl ?_
  refine step_wait 1 (by decide +kernel) 2 (by rw [lv_d]; decide) hag (by rfl) (by refine sem_d 1 rfl ?_; exact off1_at rfl) ?_
  refine head rfl ?_
  refine step_slot (by exact off7_at rfl) fun v6 h6 => ?_
  refine head rfl ?_
  refine step_wait 1 (by decide +kernel) 2 (by rw [lv_d]; decide) hag (by rfl) (by refine sem_d 1 rfl ?_; exact off1_at rfl) ?_
  refine head rfl ?_
  refine step_slot (by exact off7_at rfl) fun v7 h7 => ?_
  refine head rfl ?_
  refine step_wait 1 (by decide +kernel) 2 (by rw [lv_d]; decide) hag (by rfl) (by refine sem_d 1 rfl ?_; exact off1_at rfl) ?_
  refine head rfl ?_
  refine step_slot (by exact off7_at rfl) fun v8 h8 => ?_
  refine head rfl ?_
  refine step_wait 1 (by decide +kernel) 2 (by rw [lv_d]; decide) hag (by rfl) (by refine sem_d 1 rfl ?_; exact off1_at rfl) ?_
  refine head rfl ?_
  refine step_slot (by exact off7_at rfl) fun v9 h9 => ?_
  refine head rfl ?_
  refine step_wait 1 (by decide +kernel) 2 (by rw [lv_d]; decide) hag (by rfl) (by refine sem_d 1 rfl ?_; exact off1_at rfl) ?_
  refine head rfl ?_
  refine step_slot (by exact off7_at rfl) fun v10 h10 => ?_
  refine head rfl ?_
  refine step_wait 1 (by decide +kernel) 2 (by rw [lv_d]; decide) hag (by rfl) (by refine sem_d 1 rfl ?_; exact off1_at rfl) ?_
  refine head rfl ?_
  refine step_slot (by exact off7_at rfl) fun v11 h11 => ?_
  refine head rfl ?_
  refine step_wait 1 (by decide +kernel) 2 (by rw [lv_d]; decide) hag (by rfl) (by refine sem_d 1 rfl ?_; exact off1_at rfl) ?_
  refine head rfl ?_
  refine step_slot (by exact off7_at rfl) fun v12 h12 => ?_
  refine head rfl ?_
  refine step_wait 1 (by decide +kernel) 2 (by rw [lv_d]; decide) hag (by rfl) (by refine sem_d 1 rfl ?_; exact off1_at rfl) ?_
  refine head rfl ?_
  refine step_slot (by exact off7_at rfl) fun v13 h13 => ?_
  refine head rfl ?_
  refine step_wait 1 (by decide +kernel) 2 (by rw [lv_d]; decide) hag (by rfl) (by refine sem_d 1 rfl ?_; exact off1_at rfl) ?_
  refine head rfl ?_
  refine step_slot (by exact off7_at rfl) fun v14 h14 => ?_
  refine head rfl ?_
  refine step_wait 1 (by decide +kernel) 2 (by rw [lv_d]; decide) hag (by rfl) (by refine sem_d 1 rfl ?_; exact off1_at rfl) ?_
  refine head rfl ?_
  refine step_slot (by exact off7_at rfl) fun v15 h15 => ?_
  refine (show _ ⊢ iprop(ctx m ρ K ∗ (∃ f, oRow c c fullShare f) ∗ owesX c (oweAg c farL 0) ∗ bigSepL seqL.reverse (waited m ρ 1 c) ∗ xRow m ρ c c ∗ bigSepL farL.reverse (sent 0 c) ∗ atPos ER (barCell c) 1 ∅ 0 ∗ bigSepL farL (rowAny c) ∗ bigSepL farL (toGather c) ∗ bigSepL seqL (toWait 3 c) ∗ bigSepL farL (atStart c 0) ∗ bigSepL farL (atStart c 2) ∗ R) from by
    iintro ⟨Hctx, ⟨HO, -, Hd1⟩, Hx, Hs, Hb, Hrow, Ho, Hg, Hw3, Hp0, Hp2, HR⟩
    isplitl [Hctx]; · iexact Hctx
    isplitl [Ho]; · iexact Ho
    isplitl [HO]; · iexact HO
    isplitl [Hd1]; · iexact Hd1
    isplitl [Hx]; · iexact Hx
    isplitl [Hs]; · iexact Hs
    isplitl [Hb]; · iexact Hb
    isplitl [Hrow]; · iexact Hrow
    isplitl [Hg]; · iexact Hg
    isplitl [Hw3]; · iexact Hw3
    isplitl [Hp0]; · iexact Hp0
    isplitl [Hp2]; · iexact Hp2
    iexact HR).trans ?_
  refine head rfl ?_
  refine step_peek (by exact off5_at c) fun _ => ?_
  refine head rfl ?_
  refine step_out (by exact off5_at c) (total m ρ h0 h1 h2 h3 h4 h5 h6 h7 h8 h9 h10 h11 h12 h13 h14 h15) ?_
  refine (show _ ⊢ iprop(ctx m ρ K ∗ (owesX c (oweAg c farL 0) ∗ bigSepL farL (toSend 2 3 c (fun d => oRow c c (piece (peer c d)) (fin m ρ)) (rowAny c)) ∗ bigSepL [] (sent 2 c)) ∗ oRow c c (piece c) (fin m ρ) ∗ bigSepL seqL.reverse (waited m ρ 1 c) ∗ xRow m ρ c c ∗ bigSepL farL.reverse (sent 0 c) ∗ atPos ER (barCell c) 1 ∅ 0 ∗ bigSepL seqL (toWait 3 c) ∗ bigSepL farL (atStart c 0) ∗ bigSepL farL (atStart c 2) ∗ R) from by
    iintro ⟨Hctx, Ho, HO, Hd1, Hx, Hs, Hb, Hrow, Hg, Hw3, Hp0, Hp2, HR⟩
    isplitl [Hctx]; · iexact Hctx
    ihave Ho := (deal m ρ c) $$ Ho
    icases Ho with ⟨Hoc, Hod⟩
    isplitl [HO Hod Hrow Hg]
    · isplitl [HO]; · iexact HO
      isplitl
      · iapply (zip (A := fun d => iprop(oRow c c (piece (peer c d)) (fin m ρ) ∗ rowAny c d)) (B := toGather c) (gather_of m ρ c) farL); isplitl [Hod Hrow]
        · iapply (zip (A := fun d => oRow c c (piece (peer c d)) (fin m ρ)) (B := rowAny c) (fun d => .rfl) farL); isplitl [Hod]; · iexact Hod
          iexact Hrow
        iexact Hg
      rw [bigSepL_nil]; iempintro
    isplitl [Hoc]; · iexact Hoc
    isplitl [Hd1]; · iexact Hd1
    isplitl [Hx]; · iexact Hx
    isplitl [Hs]; · iexact Hs
    isplitl [Hb]; · iexact Hb
    isplitl [Hw3]; · iexact Hw3
    isplitl [Hp0]; · iexact Hp0
    isplitl [Hp2]; · iexact Hp2
    iexact HR).trans ?_
  iterate 15
    refine head rfl ?_
    refine step_gather (by decide +kernel) (by generalize c = c'; revert c'; decide +kernel) (by refine oR_of ?_; exact off8_at c) (by refine oR_of ?_; exact off8_at c) (by refine sem_d 2 rfl ?_; exact off1_at rfl) (by refine sem_d 3 rfl ?_; exact off2_at c) ?_
  refine (show _ ⊢ iprop(ctx m ρ K ∗ (owesX c 0 ∗ bigSepL seqL (toWait 3 c) ∗ bigSepL [] (waited m ρ 3 c)) ∗ bigSepL farL.reverse (sent 2 c) ∗ oRow c c (piece c) (fin m ρ) ∗ bigSepL seqL.reverse (waited m ρ 1 c) ∗ xRow m ρ c c ∗ bigSepL farL.reverse (sent 0 c) ∗ atPos ER (barCell c) 1 ∅ 0 ∗ bigSepL farL (atStart c 0) ∗ bigSepL farL (atStart c 2) ∗ R) from by
    iintro ⟨Hctx, ⟨HO, -, Hs2⟩, Hoc, Hd1, Hx, Hs, Hb, Hw3, Hp0, Hp2, HR⟩
    isplitl [Hctx]; · iexact Hctx
    isplitl [HO Hw3]
    · isplitl [HO]; · iexact HO
      isplitl [Hw3]; · iexact Hw3
      rw [bigSepL_nil]; iempintro
    isplitl [Hs2]; · iexact Hs2
    isplitl [Hoc]; · iexact Hoc
    isplitl [Hd1]; · iexact Hd1
    isplitl [Hx]; · iexact Hx
    isplitl [Hs]; · iexact Hs
    isplitl [Hb]; · iexact Hb
    isplitl [Hp0]; · iexact Hp0
    isplitl [Hp2]; · iexact Hp2
    iexact HR).trans ?_
  iterate 15
    refine head rfl ?_
    refine step_wait 3 (by decide +kernel) 3 (by rw [lv_d]; decide) (above_zero 3) (by rfl) (by refine sem_d 3 rfl ?_; exact off1_at rfl) ?_
  refine (show _ ⊢ iprop(ctx m ρ K ∗ (owesX c 0 ∗ bigSepL farL (toWait 0 c) ∗ bigSepL [] (waited m ρ 0 c)) ∗ bigSepL seqL.reverse (waited m ρ 3 c) ∗ bigSepL farL.reverse (sent 2 c) ∗ oRow c c (piece c) (fin m ρ) ∗ bigSepL seqL.reverse (waited m ρ 1 c) ∗ xRow m ρ c c ∗ atPos ER (barCell c) 1 ∅ 0 ∗ bigSepL farL (atStart c 2) ∗ R) from by
    iintro ⟨Hctx, ⟨HO, -, Hd3⟩, Hs2, Hoc, Hd1, Hx, Hs, Hb, Hp0, Hp2, HR⟩
    isplitl [Hctx]; · iexact Hctx
    isplitl [HO Hs Hp0]
    · isplitl [HO]; · iexact HO
      isplitl
      · iapply (zip (A := sent 0 c) (B := atStart c 0) (fun d => .rfl) farL); isplitl [Hs]
        · iapply (reorder (l := farL.reverse) (by decide +kernel) (by decide +kernel) (by decide +kernel) (sent 0 c)); iexact Hs
        iexact Hp0
      rw [bigSepL_nil]; iempintro
    isplitl [Hd3]; · iexact Hd3
    isplitl [Hs2]; · iexact Hs2
    isplitl [Hoc]; · iexact Hoc
    isplitl [Hd1]; · iexact Hd1
    isplitl [Hx]; · iexact Hx
    isplitl [Hb]; · iexact Hb
    isplitl [Hp2]; · iexact Hp2
    iexact HR).trans ?_
  iterate 15
    refine head rfl ?_
    refine step_wait 0 (by decide +kernel) 3 (by rw [lv_d]; decide) (above_zero 3) (by rfl) (by refine sem_d 0 rfl ?_; exact off1_at rfl) ?_
  refine (show _ ⊢ iprop(ctx m ρ K ∗ (owesX c 0 ∗ bigSepL farL (toWait 2 c) ∗ bigSepL [] (waited m ρ 2 c)) ∗ bigSepL farL.reverse (waited m ρ 0 c) ∗ bigSepL seqL.reverse (waited m ρ 3 c) ∗ oRow c c (piece c) (fin m ρ) ∗ bigSepL seqL.reverse (waited m ρ 1 c) ∗ xRow m ρ c c ∗ atPos ER (barCell c) 1 ∅ 0 ∗ R) from by
    iintro ⟨Hctx, ⟨HO, -, Hd0⟩, Hd3, Hs2, Hoc, Hd1, Hx, Hb, Hp2, HR⟩
    isplitl [Hctx]; · iexact Hctx
    isplitl [HO Hs2 Hp2]
    · isplitl [HO]; · iexact HO
      isplitl
      · iapply (zip (A := sent 2 c) (B := atStart c 2) (fun d => .rfl) farL); isplitl [Hs2]
        · iapply (reorder (l := farL.reverse) (by decide +kernel) (by decide +kernel) (by decide +kernel) (sent 2 c)); iexact Hs2
        iexact Hp2
      rw [bigSepL_nil]; iempintro
    isplitl [Hd0]; · iexact Hd0
    isplitl [Hd3]; · iexact Hd3
    isplitl [Hoc]; · iexact Hoc
    isplitl [Hd1]; · iexact Hd1
    isplitl [Hx]; · iexact Hx
    isplitl [Hb]; · iexact Hb
    iexact HR).trans ?_
  iterate 15
    refine head rfl ?_
    refine step_wait 2 (by decide +kernel) 3 (by rw [lv_d]; decide) (above_zero 3) (by rfl) (by refine sem_d 2 rfl ?_; exact off1_at rfl) ?_
  refine fin_ret rfl ?_
  refine (show _ ⊢ iprop(ctx m ρ K ∗ done m ρ c ∗ R) from by
    unfold done
    iintro ⟨Hctx, ⟨HO, -, Hd2⟩, Hd0, Hd3, Hoc, Hd1, Hx, Hb, HR⟩
    isplitl [Hctx]; · iexact Hctx
    isplitr [HR]
    · isplitl [HO]; · iexact HO
      isplitl [Hb]; · iexact Hb
      isplitl [Hx]; · iexact Hx
      isplitl [Hoc]; · iexact Hoc
      isplitl [Hd0]; · iexact Hd0
      isplitl [Hd1]; · iexact Hd1
      isplitl [Hd2]; · iexact Hd2
      iexact Hd3
    iexact HR).trans h

end Cert.Exch
-- ==== Proof.Bufs.lean ====
/- The buffers taken apart into the sixteen pieces the exchange moves, and put together again. -/
module

public import proofs.«01_k».proof.Proof.Body
public import Idealize.ShloMosaic.Lib.Ring
public import Idealize.ShloMosaic.Lib.Pipeline.ValueKit.Geometry

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## Which elements a piece has -/

theorem mem_row (j : Fin 16) (i : S256x256.Idx) : i ∈ (rowRect j).set ↔ (i 0).val / 16 = j.val := by
  rw [Rect.mem_set_unit]
  have h1 : (i 1).val < 256 := (i 1).isLt
  constructor
  · intro h
    have h0 : 16 * j.val ≤ (i 0).val ∧ (i 0).val < 16 * j.val + 16 := h 0
    omega
  · intro h a
    fin_cases a
    · show 16 * j.val ≤ (i 0).val ∧ (i 0).val < 16 * j.val + 16
      omega
    · show 0 ≤ (i 1).val ∧ (i 1).val < 0 + 256
      omega

theorem mem_slot (j : Fin 16) (i : S16x16x256.Idx) : i ∈ (slotRect j).set ↔ (i 0).val = j.val := by
  rw [Rect.mem_set_unit]
  have h1 : (i 1).val < 16 := (i 1).isLt
  have h2 : (i 2).val < 256 := (i 2).isLt
  constructor
  · intro h
    have h0 : j.val ≤ (i 0).val ∧ (i 0).val < j.val + 1 := h 0
    omega
  · intro h a
    fin_cases a
    · show j.val ≤ (i 0).val ∧ (i 0).val < j.val + 1
      omega
    · show 0 ≤ (i 1).val ∧ (i 1).val < 0 + 16
      omega
    · show 0 ≤ (i 2).val ∧ (i 2).val < 0 + 256
      omega

theorem mem_x (j : Fin 16) (i : S256x256.Idx) : i ∈ (xR j).view.set ↔ (i 0).val / 16 = j.val :=
  ValueKit.mem_set_slice_whole_iff cc0_stg0_0 (rowRect j) i (mem_row j i)
theorem mem_o (j : Fin 16) (i : S256x256.Idx) : i ∈ (oR j).view.set ↔ (i 0).val / 16 = j.val :=
  ValueKit.mem_set_slice_whole_iff cc0_stg1_0 (rowRect j) i (mem_row j i)
theorem mem_r (j : Fin 16) (i : S16x16x256.Idx) : i ∈ (rS j).view.set ↔ (i 0).val = j.val := by
  rw [show (rS j).view.set = ((View.whole cc0_scratch0).slice (slotRect j)).set from View.set_reshape _ _]
  exact ValueKit.mem_set_slice_whole_iff cc0_scratch0 (slotRect j) i (mem_slot j i)

/-- Sets told apart by a number are disjoint. -/
theorem apart {α : Type} (I : Fin 16 → Finset α) (n : α → ℕ) (h : ∀ j i, i ∈ I j ↔ n i = j.val) (b b' : Fin 16) (hb : b ≠ b') :
    Disjoint (I b) (I b') :=
  Finset.disjoint_left.mpr fun i hi hi' => hb (Fin.ext (((h b i).mp hi).symm.trans ((h b' i).mp hi')))
theorem row_lt (i : S256x256.Idx) : (i 0).val / 16 < 16 := Nat.div_lt_of_lt_mul (i 0).isLt
theorem slot_lt (i : S16x16x256.Idx) : (i 0).val < 16 := (i 0).isLt

theorem apart_x (b b' : Fin 16) (hb : b ≠ b') : Disjoint (xR b).view.set (xR b').view.set := apart _ (fun i : S256x256.Idx => (i 0).val / 16) mem_x b b' hb
theorem cover_x (ft : Fintype S256x256.Idx) (dec : DecidableEq S256x256.Idx) : Finset.univ.biUnion (fun j : Fin 16 => (xR j).view.set) = (Finset.univ : Finset S256x256.Idx) :=
  Finset.eq_univ_iff_forall.mpr fun i => Finset.mem_biUnion.mpr ⟨⟨(i 0).val / 16, row_lt i⟩, Finset.mem_univ _, (mem_x _ i).mpr rfl⟩
theorem apart_o (b b' : Fin 16) (hb : b ≠ b') : Disjoint (oR b).view.set (oR b').view.set := apart _ (fun i : S256x256.Idx => (i 0).val / 16) mem_o b b' hb
theorem cover_o (ft : Fintype S256x256.Idx) (dec : DecidableEq S256x256.Idx) : Finset.univ.biUnion (fun j : Fin 16 => (oR j).view.set) = (Finset.univ : Finset S256x256.Idx) :=
  Finset.eq_univ_iff_forall.mpr fun i => Finset.mem_biUnion.mpr ⟨⟨(i 0).val / 16, row_lt i⟩, Finset.mem_univ _, (mem_o _ i).mpr rfl⟩
theorem apart_r (b b' : Fin 16) (hb : b ≠ b') : Disjoint (rS b).view.set (rS b').view.set := apart _ (fun i : S16x16x256.Idx => (i 0).val) mem_r b b' hb
theorem cover_r (ft : Fintype S16x16x256.Idx) (dec : DecidableEq S16x16x256.Idx) : Finset.univ.biUnion (fun j : Fin 16 => (rS j).view.set) = (Finset.univ : Finset S16x16x256.Idx) :=
  Finset.eq_univ_iff_forall.mpr fun i => Finset.mem_biUnion.mpr ⟨⟨(i 0).val, slot_lt i⟩, Finset.mem_univ _, (mem_r _ i).mpr rfl⟩

omit [FloatOps F] in
/-- The input's staging buffer, row block by row block. -/
theorem x_split (c : Dev nD) : (((c : Thread nD τ).loc cc0_stg0_0) ↦{fullShare} xstg m ρ c : sProp 𝕄) = bigSep Finset.univ (xRow m ρ c) := by
  refine (Ring.pointsTo_blocks (ℓ := (c : Thread nD τ).loc cc0_stg0_0) (fun j => (xR j).view.set) ?_ ?_ (xstg m ρ c)).trans ?_
  · exact apart_x
  · exact cover_x _ _
  · rfl
omit [FloatOps F] in
/-- The result's staging buffer, row block by row block. -/
theorem o_split (c : Dev nD) (f : (cc0_stg1_0 : Ref sig .tc).ty.Contents (Elt F)) :
    (((c : Thread nD τ).loc cc0_stg1_0) ↦{fullShare} f : sProp 𝕄) = bigSep Finset.univ fun j => oRow c j fullShare f := by
  refine (Ring.pointsTo_blocks (ℓ := (c : Thread nD τ).loc cc0_stg1_0) (fun j => (oR j).view.set) ?_ ?_ f).trans ?_
  · exact apart_o
  · exact cover_o _ _
  · rfl
omit [FloatOps F] in
/-- The landing buffer, slot by slot. -/
theorem r_split (c : Dev nD) (f : (cc0_scratch0 : Ref sig .tc).ty.Contents (Elt F)) :
    (((c : Thread nD τ).loc cc0_scratch0) ↦{fullShare} f : sProp 𝕄) = bigSep Finset.univ fun j => rSlot c j f := by
  refine (Ring.pointsTo_blocks (ℓ := (c : Thread nD τ).loc cc0_scratch0) (fun j => (rS j).view.set) ?_ ?_ f).trans ?_
  · exact apart_r
  · exact cover_r _ _
  · rfl
omit [FloatOps F] in
/-- The slots, at whatever they hold, are the landing buffer. -/
theorem r_join (c : Dev nD) (f₀ : (cc0_scratch0 : Ref sig .tc).ty.Contents (Elt F)) :
    (bigSep Finset.univ fun j => iprop(∃ f, rSlot (F := F) c j f)) ⊢ iprop(∃ f : Buf (Elt F) ((c : Thread nD τ).loc cc0_scratch0), ((c : Thread nD τ).loc cc0_scratch0) ↦{fullShare} f) := by
  refine BI.Entails.trans ?_ (Ring.pointsTo_blocks_join_exists (ℓ := (c : Thread nD τ).loc cc0_scratch0) (fun j => (rS j).view.set) ?_ ?_ f₀)
  · exact BI.Entails.refl _
  · exact apart_r
  · exact cover_r _ _

end Cert.Exch
-- ==== Proof.Ends.lean ====
/- What the launch gives a device's body and what it takes back: the buffers cut and rejoined, the cells closed. -/
module

public import proofs.«01_k».proof.Proof.Bufs

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## Families over the other devices -/

omit [FloatOps F] in
/-- What is always known may be used for each member of a family. -/
theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- The four families of DMA cells, one by one. -/
theorem families (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- A family over all devices but `c`. -/
abbrev others (c : Dev nD) (Φ : Dev nD → sProp 𝕄) : sProp 𝕄 := bigSep (Finset.univ.erase c) Φ

section Parts
variable (c : Dev nD)

theorem signals : bigSepL seqL (toSignal (F := F) c)
    = iprop(others (F := F) c (fun p => dutyTok ER (barCell p) 0 c) ∗ others (F := F) c (fun p => iprop(∃ f, rSlot (F := F) c p f)) ∗ others (F := F) c fun p => iprop(∃ f, oRow (F := F) c p fullShare f)) := by
  refine (around c seqL (by decide +kernel) (by decide +kernel) fun p => iprop(dutyTok ER (barCell p) 0 c ∗ (∃ f, rSlot (F := F) c p f) ∗ ∃ f, oRow (F := F) c p fullShare f)).trans ?_
  rw [bigSep_sep', bigSep_sep']
theorem scatters : bigSepL farL (toScatter (F := F) m ρ c)
    = iprop(others (F := F) c (xRow m ρ c) ∗ others (F := F) c (fun p => dutyTok ER (dCell 0 c p) 0 (0 : Dev nD)) ∗ others (F := F) c fun p => dutyTok ER (dCell 1 p c) 0 (0 : Dev nD)) := by
  refine (around c farL (by decide +kernel) (by decide +kernel) fun p => iprop(xRow m ρ c p ∗ dutyTok ER (dCell 0 c p) 0 (0 : Dev nD) ∗ dutyTok ER (dCell 1 p c) 0 (0 : Dev nD))).trans ?_
  rw [bigSep_sep', bigSep_sep']
theorem gathers : bigSepL farL (toGather (F := F) c)
    = iprop(others (F := F) c (fun p => dutyTok ER (dCell 2 c p) 0 (0 : Dev nD)) ∗ others (F := F) c fun p => dutyTok ER (dCell 3 p c) 0 (0 : Dev nD)) := by
  refine (around c farL (by decide +kernel) (by decide +kernel) fun p => iprop(dutyTok ER (dCell 2 c p) 0 (0 : Dev nD) ∗ dutyTok ER (dCell 3 p c) 0 (0 : Dev nD))).trans ?_
  rw [bigSep_sep']
theorem awaits (k : Fin 4) : bigSepL seqL (toWait (F := F) k c)
    = iprop(others (F := F) c (fun p => cred (tallyAt (dCell k c p) () N)) ∗ others (F := F) c fun p => atPos ER (dCell k c p) 0 ∅ 0) := by
  refine (around c seqL (by decide +kernel) (by decide +kernel) fun p => iprop(cred (tallyAt (dCell k c p) () N) ∗ atPos ER (dCell k c p) 0 ∅ 0)).trans ?_
  rw [bigSep_sep']
theorem starts (k : Fin 4) : bigSepL farL (atStart (F := F) c k) = others (F := F) c fun p => atPos ER (dCell k c p) 0 ∅ 0 :=
  around c farL (by decide +kernel) (by decide +kernel) fun p => atPos ER (dCell k c p) 0 ∅ 0
theorem ends (k : Fin 4) (l : List (Dev nD)) (h : l.toFinset = Finset.univ.erase 0) (hn : l.Nodup) : bigSepL l (waited (F := F) m ρ k c)
    = iprop(others (F := F) c (dPay m ρ c k) ∗ others (F := F) c fun p => atPos ER (dCell k c p) 1 ∅ 0) := by
  refine (around c l h hn fun p => iprop(dPay m ρ c k p ∗ atPos ER (dCell k c p) 1 ∅ 0)).trans ?_
  rw [bigSep_sep']
end Parts

/-! ## What the launch gives a device, and what it takes back -/

/-- A device's positions on its own cells. -/
def positions (c : Dev nD) : sProp 𝕄 :=
  iprop(atPos ER (barCell c) 0 ∅ 0 ∗ bigSep Finset.univ fun k : Fin 4 => bigSep Finset.univ fun j : Fin 16 => atPos ER (dCell k c j) 0 ∅ 0)
/-- The tokens of the duties a device pays. -/
def payToks (c : Dev nD) : sProp 𝕄 :=
  iprop(others (F := F) c (fun p => dutyTok ER (barCell p) 0 c) ∗ others (F := F) c (fun p => dutyTok ER (dCell 0 c p) 0 (0 : Dev nD))
    ∗ others (F := F) c (fun p => dutyTok ER (dCell 1 p c) 0 (0 : Dev nD)) ∗ others (F := F) c (fun p => dutyTok ER (dCell 2 c p) 0 (0 : Dev nD))
    ∗ others (F := F) c fun p => dutyTok ER (dCell 3 p c) 0 (0 : Dev nD))
/-- The credits it waits with. -/
def creds (c : Dev nD) : sProp 𝕄 :=
  iprop(cred (tallyAt (barCell c) () 15) ∗ others (F := F) c (fun p => cred (tallyAt (dCell 1 c p) () N)) ∗ others (F := F) c fun p => cred (tallyAt (dCell 3 c p) () N))

/-- What the body does not touch: the device's own slot, and its own members of the DMA cells. -/
def aside (c : Dev nD) : sProp 𝕄 :=
  iprop((∃ f, rSlot (F := F) c c f) ∗ bigSep Finset.univ fun k : Fin 4 => atPos ER (dCell k c c) 0 ∅ 0)

/-- The positions, the untouched ones apart. -/
theorem positions_eq (c : Dev nD) : positions (F := F) c
    = iprop(atPos ER (barCell c) 0 ∅ 0 ∗ (bigSep Finset.univ fun k : Fin 4 => atPos ER (dCell k c c) 0 ∅ 0)
      ∗ bigSep Finset.univ fun k : Fin 4 => others (F := F) c fun p => atPos ER (dCell k c p) 0 ∅ 0) := by
  unfold positions
  rw [← bigSep_sep', bigSep_congr fun k _ => bigSep_univ_at (fun j : Fin 16 => (atPos ER (dCell k c j) 0 ∅ 0 : sProp 𝕄)) c]

theorem slots_open (c : Dev nD) (f : (cc0_scratch0 : Ref sig .tc).ty.Contents (Elt F)) :
    (((c : Thread nD τ).loc cc0_scratch0) ↦{fullShare} f : sProp 𝕄) ⊢ iprop((∃ f, rSlot (F := F) c c f) ∗ others (F := F) c fun j => iprop(∃ f, rSlot c j f)) := by
  rw [r_split c f, ← bigSep_univ_at (fun j : Dev nD => iprop(∃ f, rSlot (F := F) c j f)) c]
  refine bigSep_mono fun j _ => show _ ⊢ iprop(∃ f, rSlot (F := F) c j f) from ?_
  iintro H; iexists f; iexact H
theorem rows_open (c : Dev nD) (f : (cc0_stg1_0 : Ref sig .tc).ty.Contents (Elt F)) :
    (((c : Thread nD τ).loc cc0_stg1_0) ↦{fullShare} f : sProp 𝕄) ⊢ iprop((∃ f, oRow (F := F) c c fullShare f) ∗ others (F := F) c fun j => iprop(∃ f, oRow c j fullShare f)) := by
  rw [o_split c f, ← bigSep_univ_at (fun j : Dev nD => iprop(∃ f, oRow (F := F) c j fullShare f)) c]
  refine bigSep_mono fun j _ => show _ ⊢ iprop(∃ f, oRow (F := F) c j fullShare f) from ?_
  iintro H; iexists f; iexact H

/-- What the launch gives a device is what its body starts with, and what the body leaves alone. -/
theorem enter (c : Dev nD) (f : (cc0_scratch0 : Ref sig .tc).ty.Contents (Elt F)) (g : (cc0_stg1_0 : Ref sig .tc).ty.Contents (Elt F)) :
    iprop(owesX c (O₀ c) ∗ (positions (F := F) c ∗ payToks (F := F) c) ∗ creds (F := F) c ∗ (((c : Thread nD τ).loc cc0_scratch0) ↦{fullShare} f)
        ∗ (((c : Thread nD τ).loc cc0_stg0_0) ↦{fullShare} xstg m ρ c) ∗ (((c : Thread nD τ).loc cc0_stg1_0) ↦{fullShare} g))
      ⊢ iprop(start m ρ c ∗ aside (F := F) c) := by
  rw [positions_eq, families, families]
  unfold payToks creds start aside
  rw [families, signals, scatters, gathers, awaits, awaits, starts, starts, x_split, bigSep_univ_at (xRow m ρ c) c]
  iintro ⟨HO, ⟨⟨Hb, ⟨Hz0, Hz1, Hz2, Hz3⟩, Hp0, Hp1, Hp2, Hp3⟩, Htb, Ht0, Ht1, Ht2, Ht3⟩, ⟨Hcb, Hc1, Hc3⟩, Hr, ⟨Hxc, Hx⟩, Ho⟩
  ihave Hr := (slots_open c f) $$ Hr
  icases Hr with ⟨Hrc, Hr⟩
  ihave Ho := (rows_open c g) $$ Ho
  icases Ho with ⟨Hoc, Ho⟩
  isplitr [Hrc Hz0 Hz1 Hz2 Hz3]
  · isplitl [HO]; · iexact HO
    isplitl [Htb Hr Ho]
    · isplitl [Htb]; · iexact Htb
      isplitl [Hr] <;> iassumption
    isplitl [Hb Hcb]
    · isplitl [Hb] <;> iassumption
    isplitl [Hx Ht0 Ht1]
    · isplitl [Hx]; · iexact Hx
      isplitl [Ht0] <;> iassumption
    isplitl [Hxc]; · iexact Hxc
    isplitl [Hoc]; · iexact Hoc
    isplitl [Ht2 Ht3]
    · isplitl [Ht2] <;> iassumption
    isplitl [Hc1 Hp1]
    · isplitl [Hc1] <;> iassumption
    isplitl [Hc3 Hp3]
    · isplitl [Hc3] <;> iassumption
    isplitl [Hp0] <;> iassumption
  isplitl [Hrc]; · iexact Hrc
  isplitl [Hz0]; · iexact Hz0
  isplitl [Hz1]; · iexact Hz1
  isplitl [Hz2] <;> iassumption

/-! ## The end -/

/-- Cells past their rounds close: their counters are at zero. -/
theorem close_family (K : Dev nD × CI → ℕ) (c : Dev nD) (k : Fin 4) :
    iprop(recs m ρ K ∗ atPos ER (dCell k c c) 0 ∅ 0 ∗ others (F := F) c fun p => atPos ER (dCell k c p) 1 ∅ 0)
      ⊢ |={Set.univ}=> bigSep Finset.univ fun j : Fin 16 => (semVal (dCell k c j) 0 : sProp 𝕄) := by
  have one (p : Dev nD) {R : ℕ} (h : ∀ r, R ≤ r → (Rd (F := F) m ρ).duties (dCell k c p) r = ∅) :
      iprop(recs m ρ K ∗ atPos ER (dCell k c p) R ∅ 0) ⊢ iprop(|={Set.univ}=> semVal (dCell k c p) 0) :=
    (sep_mono_left (recs_inv m ρ K (c, some (k, p)))).trans (Rounds.cell_close ER (Rd m ρ) (Set.mem_univ _) (fun h => h) h)
  rw [bigSep_univ_at (fun j : Fin 16 => (semVal (dCell k c j) 0 : sProp 𝕄)) c]
  iintro ⟨#HI, Hc, Hp⟩
  imod (one c fun r _ => duties_self m ρ c k r) $$ [Hc] with Hc
  · isplitr; · iexact HI
    iexact Hc
  imod ((with_known (fun p _ => one p fun r hr => duties_later m ρ _ r hr)).trans (bigSep_fupd (Finset.univ.erase c) _)) $$ [Hp] with Hp
  · isplitr; · iexact HI
    iexact Hp
  imodintro
  isplitl [Hc] <;> iassumption

theorem close_all (K : Dev nD × CI → ℕ) (c : Dev nD) :
    iprop(recs m ρ K ∗ (bigSep Finset.univ fun k : Fin 4 => atPos ER (dCell k c c) 0 ∅ 0) ∗ bigSep Finset.univ fun k : Fin 4 => others (F := F) c fun p => atPos ER (dCell k c p) 1 ∅ 0)
      ⊢ |={Set.univ}=> bigSep Finset.univ fun kj : Fin 4 × Fin 16 => (semVal (dCell kj.1 c kj.2) 0 : sProp 𝕄) := by
  rw [← bigSep_sep', bigSep_univ_prod]
  exact (with_known fun k _ => close_family m ρ K c k).trans (bigSep_fupd _ _)

/-- The slots of the landing buffer rejoined. -/
theorem slots_close (c : Dev nD) : iprop((∃ f, rSlot (F := F) c c f) ∗ others (F := F) c (rsGot m ρ c))
    ⊢ iprop(∃ f : Buf (Elt F) ((c : Thread nD τ).loc cc0_scratch0), ((c : Thread nD τ).loc cc0_scratch0) ↦{fullShare} f) := by
  iintro ⟨⟨%f, Hc⟩, Hp⟩
  iapply (r_join c f)
  rw [bigSep_univ_at (fun j : Dev nD => iprop(∃ f, rSlot (F := F) c j f)) c]
  isplitl [Hc]
  · iexists f; iexact Hc
  iapply (show others (F := F) c (rsGot m ρ c) ⊢ others (F := F) c (fun j => iprop(∃ f, rSlot (F := F) c j f)) from
    bigSep_mono fun j _ => show _ ⊢ iprop(∃ f, rSlot (F := F) c j f) from by
      unfold rsGot
      iintro ⟨%f, -, H⟩; iexists f; iexact H)
  iexact Hp

/-- The result's buffer rejoined: the device's own row block from its pieces, the others' as they arrived. -/
theorem rows_close (c : Dev nD) :
    iprop((oRow c c (piece c) (fin m ρ) ∗ others (F := F) c fun p => oRow c c (piece p) (fin m ρ)) ∗ others (F := F) c fun p => oRow c p fullShare (fin m ρ))
      ⊢ (((c : Thread nD τ).loc cc0_stg1_0) ↦{fullShare} fin m ρ : sProp 𝕄) := by
  rw [← bigSep_univ_at (fun p => oRow (F := F) c c (piece p) (fin m ρ)) c, o_split, bigSep_univ_at (fun p => oRow (F := F) c p fullShare (fin m ρ)) c]
  exact sep_mono_left (Entails.of_eq (Transfers.pointsTo_deal _ ⟨c, Finset.mem_univ _⟩ _).symm)

/-- What a device holds after its body: the landing buffer, and every cell at zero. -/
def Φ₁ (c : Dev nD) : sProp 𝕄 :=
  iprop((∃ f : Buf (Elt F) ((c : Thread nD τ).loc cc0_scratch0), ((c : Thread nD τ).loc cc0_scratch0) ↦{fullShare} f)
    ∗ semVal (barCell c) 0 ∗ bigSep Finset.univ fun kj : Fin 4 × Fin 16 => (semVal (dCell kj.1 c kj.2) 0 : sProp 𝕄))

/-- What the body leaves is what the launch takes back. -/
theorem leave (K : Dev nD × CI → ℕ) (c : Dev nD) :
    iprop(ctx m ρ K ∗ done m ρ c ∗ aside (F := F) c)
      ⊢ |={Set.univ}=> iprop(Φ₁ (F := F) c ∗ owesX c 0 ∗ (((c : Thread nD τ).loc cc0_stg0_0) ↦{fullShare} xstg m ρ c)
          ∗ (((c : Thread nD τ).loc cc0_stg1_0) ↦{fullShare} fin m ρ)) := by
  unfold ctx done aside Φ₁
  rw [ends m ρ c 0 farL.reverse (by decide +kernel) (by decide +kernel), ends m ρ c 1 seqL.reverse (by decide +kernel) (by decide +kernel),
    ends m ρ c 2 farL.reverse (by decide +kernel) (by decide +kernel), ends m ρ c 3 seqL.reverse (by decide +kernel) (by decide +kernel),
    x_split, bigSep_univ_at (xRow m ρ c) c]
  iintro ⟨⟨#HI, -⟩, ⟨HO, Hb, Hxc, Hoc, ⟨Hx, Hp0⟩, ⟨Hr, Hp1⟩, ⟨Ho, Hp2⟩, ⟨Hg, Hp3⟩⟩, Hrc, Hz⟩
  imod (Rounds.cell_close ER (Rd m ρ) (Set.mem_univ (K (c, none))) (fun h => h) (R := 1) (duties_later m ρ (barCell c))) $$ [Hb] with Hb
  · isplitr; · iapply (recs_inv m ρ K (c, none)); iexact HI
    iexact Hb
  imod (close_all m ρ K c) $$ [Hz Hp0 Hp1 Hp2 Hp3] with Hz
  · isplitr; · iexact HI
    isplitl [Hz]; · iexact Hz
    rw [families]
    isplitl [Hp0]; · iexact Hp0
    isplitl [Hp1]; · iexact Hp1
    isplitl [Hp2] <;> iassumption
  imodintro
  isplitl [Hb Hz Hrc Hr]
  · isplitl [Hrc Hr]
    · iapply (slots_close m ρ c)
      isplitl [Hrc]; · iexact Hrc
      iexact Hr
    isplitl [Hb] <;> iassumption
  isplitl [HO]; · iexact HO
  isplitl [Hxc Hx]
  · isplitl [Hxc]; · iexact Hxc
    iexact Hx
  iapply (rows_close m ρ c)
  isplitl [Hoc Ho]
  · isplitl [Hoc]; · iexact Hoc
    iexact Ho
  iexact Hg

end Cert.Exch
-- ==== Proof.Point.lean ====
/- The body of each device as the launch asks for it: from what the launch hands over at the one grid point to what it takes back. -/
module

public import proofs.«01_k».proof.Proof.Ends
public import proofs.«01_k».proof.Proof.Gen.KernelIdeal.Launch
public import proofs.«01_k».proof.Proof.Gen.KernelIdeal.Points

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The body, as the launch asks for it -/

/-- What a device holds before its body. -/
def Φ₀ (c : Dev nD) : sProp 𝕄 :=
  iprop(((∃ K, ctx m ρ K) ∗ (positions (F := F) c ∗ payToks (F := F) c) ∗ creds (F := F) c)
    ∗ ∃ f : Buf (Elt F) ((c : Thread nD τ).loc cc0_scratch0), ((c : Thread nD τ).loc cc0_scratch0) ↦{fullShare} f)

/-- The contents of the staging buffers, what the body holds and what the device owes, before and after the one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => fin m ρ
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

omit [FloatOps F] in
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

omit [FloatOps F] in
/-- A buffer holding `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

set_option maxRecDepth 4000 in
/-- The body's state before the point. -/
def before (c : Dev nD) : sProp 𝕄 :=
  iprop(Φ₀ m ρ c ∗ (dats m ρ 0 c).owesAt () t0_0.castSucc
    ∗ (∃ d, holds c cc0_stg0_0 ((dats m ρ 0 c).before (0 : Fin 2) t0_0 d))
    ∗ (∃ d, holds c cc0_stg1_0 ((dats m ρ 0 c).before (1 : Fin 2) t0_0 d)))

set_option maxRecDepth 4000 in
/-- And after it. -/
def after (c : Dev nD) : sProp 𝕄 :=
  iprop(Φ₁ (F := F) c ∗ (dats m ρ 0 c).owesAt () t0_0.succ ∗ holds c cc0_stg0_0 (xstg m ρ c) ∗ holds c cc0_stg1_0 (fin m ρ))

theorem after_of (K : Dev nD × CI → ℕ) (c : Dev nD) : iprop(ctx m ρ K ∗ done m ρ c ∗ aside (F := F) c) ⊢ |={Set.univ}=> after m ρ c := by
  refine (leave m ρ K c).trans (BI.fupd_mono ?_)
  unfold after owesX
  show _ ⊢ iprop(Φ₁ (F := F) c ∗ (dats m ρ 0 c).owesAt () t0_0.succ ∗ holds c cc0_stg0_0 (xstg m ρ c) ∗ holds c cc0_stg1_0 (fin m ρ))
  unfold Dat.owesAt Pipeline.owesWithin
  rw [show (dats m ρ 0 c).owed t0_0.succ = 0 from rfl]
  iintro ⟨HP, ⟨%W, HO⟩, Hx, Ho⟩
  isplitl [HP]; · iexact HP
  isplitl [HO]
  · iexists W; isplitr
    · ipureintro; exact fun _ _ => Or.inl trivial
    iexact HO
  isplitl [Hx]
  · iexists _; isplitr; · (ipureintro; rfl)
    iexact Hx
  iexists _; isplitr; · (ipureintro; rfl)
  iexact Ho

set_option maxRecDepth 4000 in
theorem of_before (c : Dev nD) : before m ρ c ⊢ iprop(∃ K, ctx m ρ K ∗ start m ρ c ∗ aside (F := F) c) := by
  unfold before Φ₀
  iintro ⟨⟨⟨⟨%K, Hctx⟩, Hlin, Hcr⟩, ⟨%r, Hr⟩⟩, Ho, ⟨%d0, %g0, %hg0, Hx⟩, ⟨%d1, %g1, -, Hout⟩⟩
  have hx : g0 = xstg m ρ c := by rw [hg0]; unfold Dat.before; rw [if_pos (fetch0_0 t0_0)]; rfl
  subst hx
  unfold Dat.owesAt Pipeline.owesWithin
  icases Ho with ⟨%W, -, HO⟩
  rw [show (dats m ρ 0 c).owed t0_0.castSucc = O₀ c from rfl]
  iexists K
  isplitl [Hctx]; · iexact Hctx
  iapply (enter m ρ c r g1)
  isplitl [HO]
  · unfold owesX; iexists W; iexact HO
  isplitl [Hlin]; · iexact Hlin
  isplitl [Hcr]; · iexact Hcr
  isplitl [Hr]; · iexact Hr
  isplitl [Hx] <;> iassumption

set_option maxRecDepth 65536 in
/-- The body of every device, at its one point. -/
theorem body_obligation (c : Dev nD) : BodyObligation (dats (F := F) m ρ 0 c) (defs₀ (F := F)) 𝒱₀ () Set.univ := fun t => by
  rw [fin_N0 t]
  rw [bigSep_W0, bigSep_W0]
  simp only [owns_buffer]
  show before m ρ c ⊢ WP c (cc0_body (F := F) (Memref.whole cc0_stg0_0) (Memref.isWhole_whole _) (Memref.whole cc0_stg1_0) (Memref.isWhole_whole _)
    (Memref.whole cc0_scratch0) (Memref.isWhole_whole _) cc0_scratch1 cc0_scratch2 cc0_scratch3 cc0_scratch4) (fun _ => after m ρ c)
  refine (of_before m ρ c).trans ?_
  iintro ⟨%K, H⟩
  iapply (run_body m ρ K c (fun _ => after m ρ c) (aside (F := F) c) (after_of m ρ K c))
  iexact H

end Cert.Exch
-- ==== Proof.Ghost.lean ====
/- The ghost state at launch: every cell's invariant allocated, every token dealt to the device that pays its duty. -/
module

public import proofs.«01_k».proof.Proof.Point

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The cells and the tokens -/

theorem ownSemFacts : Pipeline.OwnSemFacts cfg0.spec osem := by decide +kernel

omit [FloatOps F] in
theorem share_whole (c : Dev nD) (w : Fin cfg0.W) [FloatOps F] : (dats (F := F) m ρ 0 c).share w = fullShare := by unfold Dat.share; split <;> rfl

theorem dsem_inj {k k' : Fin 4} {j j' : Fin 16} (h : dsem k j = dsem k' j') : k = k' ∧ j = j' :=
  ⟨(semK_dsem k j).symm.trans ((congrArg semK h).trans (semK_dsem k' j')), (semJ_dsem k j).symm.trans ((congrArg semJ h).trans (semJ_dsem k' j'))⟩
theorem ksem_inj : Function.Injective ksem
  | none, none, _ => rfl
  | none, some _, h => by cases h
  | some _, none, h => by cases h
  | some _, some _, h => by
    obtain ⟨h1, h2⟩ := dsem_inj (SemLoc.dma.inj h)
    exact congrArg some (Prod.ext h1 h2)
theorem kcell_inj : Function.Injective (kcell : Dev nD × CI → GSem nD τ sig) := fun a b h =>
  Prod.ext (congrArg (fun g : GSem nD τ sig => g.1.1) h) (ksem_inj (congrArg Prod.snd h))
/-- All cells. -/
def allCells : Finset (GSem nD τ sig) := Finset.univ.map ⟨kcell, kcell_inj⟩

/-- A device's cells' duties: on the barrier one named by each device, on each DMA cell one. -/
abbrev TI : Type := Dev nD ⊕ (Fin 4 × Fin 16)
abbrev tokOf (ct : Dev nD × TI) : GSem nD τ sig × ℕ × Dev nD :=
  match ct.2 with
  | .inl p => (barCell ct.1, 0, p)
  | .inr kj => (dCell kj.1 ct.1 kj.2, 0, 0)
theorem tokOf_inj : Function.Injective (tokOf : Dev nD × TI → GSem nD τ sig × ℕ × Dev nD) := by
  rintro ⟨c, t⟩ ⟨c', t'⟩ h
  have hs := congrArg (fun x : GSem nD τ sig × ℕ × Dev nD => x.1.2) h
  have hd := congrArg (fun x : GSem nD τ sig × ℕ × Dev nD => x.2.2) h
  have hc := congrArg (fun x : GSem nD τ sig × ℕ × Dev nD => x.1.1.1) h
  rcases t with p | kj <;> rcases t' with p' | kj'
  · exact Prod.ext hc (congrArg Sum.inl hd)
  · exact absurd hs (fun e => by cases e)
  · exact absurd hs (fun e => by cases e)
  · obtain ⟨h1, h2⟩ := dsem_inj (SemLoc.dma.inj hs)
    exact Prod.ext hc (congrArg Sum.inr (Prod.ext h1 h2))
/-- All tokens. -/
def allToks : Finset (GSem nD τ sig × ℕ × Dev nD) := Finset.univ.map ⟨tokOf, tokOf_inj⟩

/-- The ghost state at launch. -/
def u₀ : UU := (initOf (Pipeline.cells cfgs cellOf_inj) (Pipeline.launchToks cfgs cellOf_inj), initOf allCells allToks)

omit [FloatOps F] in
/-- The tokens of the duties of a device's own cells. -/
def toks (c : Dev nD) : sProp 𝕄 :=
  iprop((bigSep Finset.univ fun p : Dev nD => dutyTok ER (barCell c) 0 p)
    ∗ bigSep Finset.univ fun k : Fin 4 => bigSep Finset.univ fun j : Dev nD => dutyTok ER (dCell k c j) 0 (0 : Dev nD))

/-- What the ghost state at launch gives a device. -/
def G (c : Dev nD) : sProp 𝕄 :=
  iprop((bigSep Finset.univ fun i : CI => roundState ER (Rd (F := F) m ρ) (kcell (c, i)) 0)
    ∗ (bigSep Finset.univ fun i : CI => iprop(atPos ER (kcell (c, i)) 0 ∅ 0 ∗ reached ER (kcell (c, i)) 0)) ∗ toks (F := F) c)

/-- What all of it gives a device, dealt. -/
def G' (c : Dev nD) : sProp 𝕄 := iprop((∃ K, recs m ρ K) ∗ positions (F := F) c ∗ payToks (F := F) c)

omit [FloatOps F] in
/-- A family over a device's cells: the barrier's member, and the DMA cells' by family and member. -/
theorem by_cell (Φ : CI → sProp 𝕄) : bigSep Finset.univ Φ
    = iprop(Φ none ∗ bigSep Finset.univ fun kj : Fin 4 × Fin 16 => Φ (some kj)) := by
  rw [bigSep_univ_at Φ none, show (Finset.univ.erase none : Finset CI) = Finset.univ.map ⟨some, Option.some_injective _⟩ from by
    ext x; cases x <;> simp, bigSep_map]
  rfl

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    refine bigSep_congr fun c _ => ?_
    unfold toks
    rw [bigSep_univ_sum, bigSep_univ_prod]
    rfl
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The cells' invariants -/

omit [FloatOps F] in
theorem barrier_sems (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems_eq (c : Dev nD) :
    iprop(unscopedSems0 c ∗ Pipeline.ownSems0 (Ix := Unit) (Name := ℕ) (U := UU) (Lvl := ℕ) (Val := Elt F) (τ := τ) osem c)
      = (bigSep Finset.univ fun i : CI => semVal (kcell (c, i)) 0 : sProp 𝕄) := by
  rw [by_cell, barrier_sems]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0)) ∗ toks (F := F) c) := by
  unfold G
  iintro ⟨Hos, Hus, Hst, Hat, Htok⟩
  ihave Hv := (Entails.of_eq (sems_eq (F := F) c)) $$ [Hos Hus]
  · isplitl [Hus] <;> iassumption
  imod (show iprop((bigSep Finset.univ fun i : CI => semVal (kcell (c, i)) 0) ∗ bigSep Finset.univ fun i : CI => roundState ER (Rd m ρ) (kcell (c, i)) 0)
      ⊢ (|={Set.univ}=> bigSep Finset.univ fun i => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem positions_of (c : Dev nD) : (bigSep Finset.univ fun i : CI => (atPos ER (kcell (c, i)) 0 ∅ 0 : sProp 𝕄)) ⊢ positions (F := F) c := by
  rw [by_cell, bigSep_univ_prod]; exact .rfl

omit [FloatOps F] in
/-- The tokens of a device's own cells that some duty needs. -/
def dueToks (c : Dev nD) : sProp 𝕄 :=
  iprop(others (F := F) c (fun p => dutyTok ER (barCell c) 0 p) ∗ others (F := F) c (fun p => dutyTok ER (dCell 0 c p) 0 (0 : Dev nD))
    ∗ others (F := F) c (fun p => dutyTok ER (dCell 1 c p) 0 (0 : Dev nD)) ∗ others (F := F) c (fun p => dutyTok ER (dCell 2 c p) 0 (0 : Dev nD))
    ∗ others (F := F) c fun p => dutyTok ER (dCell 3 c p) 0 (0 : Dev nD))
omit [FloatOps F] in
theorem toks_due (c : Dev nD) : toks (F := F) c ⊢ dueToks (F := F) c := by
  have one (Φ : Dev nD → sProp 𝕄) : bigSep Finset.univ Φ ⊢ others (F := F) c Φ := by rw [bigSep_univ_at Φ c]; exact sep_elim_right
  unfold toks dueToks
  rw [families]
  exact BIClass.sep_mono (one _) (BIClass.sep_mono (one _) (BIClass.sep_mono (one _) (BIClass.sep_mono (one _) (one _))))
omit [FloatOps F] in
/-- Every device's tokens, each dealt to the device that pays the duty. -/
theorem deal_toks : (bigSep Finset.univ fun c : Dev nD => toks (F := F) c) ⊢ bigSep Finset.univ fun c : Dev nD => payToks (F := F) c := by
  rw [show (bigSep Finset.univ fun c : Dev nD => payToks (F := F) c) = bigSep Finset.univ fun c : Dev nD => dueToks (F := F) c from ?_]
  · exact bigSep_mono fun c _ => toks_due (F := F) c
  unfold payToks dueToks
  simp only [bigSep_sep']
  rw [BI.bigSep_erase_comm fun c p => (dutyTok ER (barCell c) 0 p : sProp 𝕄), BI.bigSep_erase_comm fun c p => (dutyTok ER (dCell 1 c p) 0 (0 : Dev nD) : sProp 𝕄),
    BI.bigSep_erase_comm fun c p => (dutyTok ER (dCell 3 c p) 0 (0 : Dev nD) : sProp 𝕄)]

theorem regroup :
    (bigSep Finset.univ fun c : Dev nD => iprop((bigSep Finset.univ fun i => iprop(∃ κ : ℕ, cellInv ER (Rd (F := F) m ρ) κ (kcell (c, i))))
          ∗ (bigSep Finset.univ fun i => iprop(atPos ER (kcell (c, i)) 0 ∅ 0 ∗ reached ER (kcell (c, i)) 0)) ∗ toks (F := F) c) : sProp 𝕄)
      ⊢ bigSep Finset.univ (G' m ρ) := by
  rw [bigSep_sep', bigSep_sep', ← bigSep_univ_prod (fun ci : Dev nD × CI => iprop(∃ κ : ℕ, cellInv ER (Rd (F := F) m ρ) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄))]
  iintro ⟨HI, ⟨Hat, #HR⟩, Htok⟩
  ihave HK := (BI.bigSep_exists_pi Finset.univ (fun (ci : Dev nD × CI) (κ : ℕ) => (cellInv ER (Rd m ρ) κ (kcell ci) : sProp 𝕄))) $$ HI
  icases HK with ⟨%K, #HI⟩
  ihave Htok := (deal_toks (F := F)) $$ Htok
  ihave Hat := (show (bigSep Finset.univ fun c : Dev nD => bigSep Finset.univ fun i : CI => (atPos ER (kcell (c, i)) 0 ∅ 0 : sProp 𝕄)) ⊢ bigSep Finset.univ fun c => positions (F := F) c from
    bigSep_mono fun c _ => positions_of (F := F) c) $$ Hat
  iapply (with_known (R := recs m ρ K) (S := Finset.univ) (Φ := fun c => iprop(positions (F := F) c ∗ payToks (F := F) c)) (Ψ := G' m ρ) fun c _ => by
    unfold G'
    iintro ⟨HR, H⟩
    isplitl [HR]
    · iexists K; iexact HR
    iexact H)
  isplitr
  · unfold recs; isplitl; · iexact HI
    iexact HR
  rw [bigSep_sep']
  isplitl [Hat] <;> iassumption

/-- From every device's counters and ghost state at launch, what each device starts with. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.Exch
-- ==== Proof.Run.lean ====
/- The launch: the credits each device waits with, the side conditions, and the run of the sixteen devices. -/
module

public import proofs.«01_k».proof.Proof.Ghost
public import Idealize.ShloMosaic.Lib.Pipeline.CollectiveSegs

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The credits -/

/-- The offset that leads back. -/
def neg (d : Dev nD) : Dev nD := ⟨(16 - d.val) % 16, Nat.mod_lt _ (by decide)⟩
theorem peer_back (c d : Dev nD) : peer (peer c d) (neg d) = c := by revert c d; decide +kernel
theorem back_peer (c d : Dev nD) : peer (peer c (neg d)) d = c := by revert c d; decide +kernel
/-- Going `d` places on. -/
def step (d : Dev nD) : Dev nD ≃ Dev nD := ⟨fun c => peer c d, fun c => peer c (neg d), fun c => peer_back c d, fun c => back_peer c d⟩

omit [FloatOps F] in
/-- The credit against a list of debts is the credits against each. -/
theorem cred_owe (g : Dev nD → Dev nD → GSem nD τ sig) (n : ℕ) (O : Dev nD → CellTallies nD τ sig Unit) (c : Dev nD) : ∀ l : List (Dev nD),
    (Pipeline.launchCred (fun d => owe (g d) n l (O d)) c : sProp 𝕄)
      ⊢ iprop(Pipeline.launchCred O c ∗ bigSepL l fun e => Pipeline.launchCred (fun d => tallyAt (g d e) () n) c)
  | [] => by
    rw [bigSepL_nil]
    show (Pipeline.launchCred O c : sProp 𝕄) ⊢ iprop(Pipeline.launchCred O c ∗ emp)
    iintro H
    isplitl [H]; · iexact H
    iempintro
  | e :: l => by
    have h := Pipeline.launchCred_add (Val := Elt F) (Name := ℕ) (U := UU) (Lvl := ℕ) (fun d => owe (g d) n l (O d)) (fun d => tallyAt (g d e) () n) c
    rw [bigSepL_cons']
    show (Pipeline.launchCred (fun d => owe (g d) n l (O d) + tallyAt (g d e) () n) c : sProp 𝕄) ⊢ _
    rw [h]
    iintro ⟨Hl, He⟩
    ihave Hl := (cred_owe g n O c l) $$ Hl
    icases Hl with ⟨HO, Hl⟩
    isplitl [HO]; · iexact HO
    isplitl [He] <;> iassumption

omit [FloatOps F] in
/-- A debt of every device to the device `e` places on, on the cell named by the debtor, is the credit of the device it is owed to,
    on the cell named by the device `e` places back. -/
theorem cred_block (k : Fin 4) (e c : Dev nD) :
    (Pipeline.launchCred (fun d => tallyAt (dCell k (peer d e) d) () N) c : sProp 𝕄) = cred (tallyAt (dCell k c (peer c (neg e))) () N) :=
  Pipeline.launchCred_of_sum (fun d => tallyAt (dCell k (peer d e) d) () N) (fun d => tallyAt (dCell k d (peer d (neg e))) () N)
    (by
      rw [← Equiv.sum_comp (step e) fun d => (tallyAt (dCell k d (peer d (neg e))) () N : CellTallies nD τ sig Unit)]
      refine Finset.sum_congr rfl fun d _ => ?_
      show (tallyAt (dCell k (peer d e) d) () N : CellTallies nD τ sig Unit) = tallyAt (dCell k (peer d e) (peer (peer d e) (neg e))) () N
      rw [peer_back])
    (fun d g h => by
      by_contra hg
      exact h (tallyAt_ne_cell (fun e => hg (congrArg Prod.fst e)) () N)) c

/-- So over all offsets it is a credit on every other device's cell. -/
theorem cred_blocks (k : Fin 4) (c : Dev nD) :
    (bigSepL farL fun e => (Pipeline.launchCred (fun d => tallyAt (dCell k (peer d e) d) () N) c : sProp 𝕄))
      = others (F := F) c fun p => cred (tallyAt (dCell k c p) () N) := by
  simp only [cred_block]
  refine (bigSepL_map neg farL fun e => (cred (tallyAt (dCell k c (peer c e)) () N) : sProp 𝕄)).symm.trans ?_
  exact around c (farL.map neg) (by decide +kernel) (by decide +kernel) fun p => (cred (tallyAt (dCell k c p) () N) : sProp 𝕄)

omit [FloatOps F] in
/-- Units on one cell add up. -/
theorem cred_units (g : GSem nD τ sig) : ∀ l : List (Dev nD), (bigSepL l fun _ => (cred (tallyAt g () 1) : sProp 𝕄)) ⊢ cred (tallyAt g () l.length)
  | [] => by
    rw [bigSepL_nil]
    show (emp : sProp 𝕄) ⊢ cred (tallyAt g () 0)
    rw [tallyAt_zero, cred_zero]
  | e :: l => by
    rw [bigSepL_cons', List.length_cons, ← tallyAt_add]
    iintro ⟨He, Hl⟩
    ihave Hl := (cred_units g l) $$ Hl
    iapply (cred_add (tallyAt g () l.length) (tallyAt g () 1)).2
    isplitl [Hl] <;> iassumption

/-- The credits of a device at launch. -/
theorem creds_of (c : Dev nD) : (Pipeline.launchCred O₀ c : sProp 𝕄) ⊢ creds (F := F) c := by
  unfold creds
  show (Pipeline.launchCred (fun d => oweBar d seqL (oweRs d farL (oweAg d farL 0))) c : sProp 𝕄) ⊢ _
  iintro H
  ihave H := (cred_owe (fun d e => barCell (peer d e)) 1 (fun d => oweRs d farL (oweAg d farL 0)) c seqL) $$ H
  icases H with ⟨H, Hb⟩
  ihave H := (cred_owe (fun d e => dCell 1 (peer d e) d) N (fun d => oweAg d farL 0) c farL) $$ H
  icases H with ⟨H, H1⟩
  ihave H := (cred_owe (fun d e => dCell 3 (peer d e) d) N (fun _ => 0) c farL) $$ H
  icases H with ⟨-, H3⟩
  isplitl [Hb]
  · iapply (cred_units (barCell c) seqL)
    iapply (bigSepL_mono fun e _ => Pipeline.launchCred_tallyAt (SemLoc.reg barS) (fun d => peer d e) (fun d => peer d (neg e))
      (fun d => back_peer d e) (fun d => peer_back d e) () 1 c)
    iexact Hb
  rw [← cred_blocks, ← cred_blocks]
  isplitl [H1] <;> iassumption

/-! ## The launch's side conditions -/

/-- What a device starts with. -/
def X (c : Dev nD) : sProp 𝕄 := iprop((∃ K, ctx m ρ K) ∗ (positions (F := F) c ∗ payToks (F := F) c) ∗ creds (F := F) c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(X m ρ c ∗ emp) := by
  iintro ⟨-, Hlev, Hcr, -, HG⟩
  ihave Hc := (creds_of (F := F) c) $$ Hcr
  imodintro
  unfold X G' ctx
  icases HG with ⟨⟨%K, HI⟩, Hlin⟩
  isplitl
  · isplitl [HI Hlev]
    · iexists K
      isplitl [HI] <;> iassumption
    isplitl [Hlin] <;> iassumption
  · iempintro

theorem phi0_intro (c : Dev nD) :
    iprop(X m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ X
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, barrier_sems]
  unfold Φ₁ Pipeline.ownSems0
  iintro ⟨Hr, Hb, Hz⟩
  isplitl [Hb]; · iexact Hb
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait c _ 0 (by fin_cases w <;> fin_cases s <;> exact Nat.le_of_ble_eq_true rfl) _ (by
      rcases t with ⟨_ | _, ht⟩
      · exact above_owe (above_owe (above_owe (above_zero _) (fun d => ⟨rfl, by rw [lv_d]; decide⟩) _) (fun d => ⟨rfl, by rw [lv_d]; decide⟩) _)
          (fun d => ⟨rfl, by show 0 < 1; decide⟩) _
      · exact above_zero 0)

/-! ## The run -/

/-- The windows' arrays at the end. -/
def finalA (c : Dev nD) (w : Fin cfg0.W) : Buf (Elt F) ((cfg0.win w).arr.view.loc (c : Thread nD τ)) := (dats m ρ 0 c).arrAt w cfg0.N

/-- The arrays of every device at their final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with its counters at zero: every weakly fair execution of the sixteen devices' kernels ends, and
    ends with every window's array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := fun c w => share_whole m ρ c w)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := X m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input's array holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Exch
-- ==== Proof.Value.lean ====
/- The values: the result's array ends as `fin`, and at the extended reals `fin` is the sum of the devices' inputs,
   which is what the reference computes of the whole array. -/
module

public import proofs.«01_k».proof.Proof.Run
public import proofs.«01_k».proof.Proof.Gen.ReferenceIdeal.Run
public import Idealize.ShloMosaic.Lib.IdealHost
public import Idealize.ShloMosaic.Lib.Pointwise.Reduce
public import Idealize.ShloMosaic.Lib.Pointwise.Index
public import proofs.«01_k».proof.Proof.Gen.KernelIdeal.Points
public import Idealize.ShloMosaic.Lib.Layout
public import Idealize.ShloMosaic.Lib.Pipeline.ValueKit.Geometry

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The arrays, for any float values -/

/-- The result's array ends holding `fin`, whichever the device. -/
theorem finalA_out (c : Dev nD) : finalA m ρ c (1 : Fin 2) = fin m ρ :=
  (dats m ρ 0 c).arrAt_eq_of_after_last (1 : Fin 2) (0 : Fin 1) ⟨flush0_1 _, fun t _ => Fin.ext (Nat.lt_one_iff.mp t.isLt), by decide +kernel⟩ (fin m ρ) fun _ => rfl

/-- The staging buffer of the input holds the input. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- An index of a row block, as an index of the array. -/
def place (j : Fin 16) (y : S16x256.Idx) : S256x256.Idx := (rowRect j).emb y

theorem blk_at (p j : Dev nD) (y : S16x256.Idx) : blk m ρ p j y = m ((p : Thread nD τ).loc main_arg0) (place j y) := by
  unfold blk; rw [xstg_eq]; rfl

/-- An index of the array lies in the row block of its row divided by sixteen, at the remainder. -/
theorem place_parts (i : S256x256.Idx) :
    place ⟨(i 0).val / 16, Nat.div_lt_of_lt_mul (i 0).isLt⟩
      (Fin.cons (⟨(i 0).val % 16, Nat.mod_lt _ (by decide)⟩ : Fin 16) (Fin.cons (i 1) (fun a => a.elim0))) = i := by
  funext a
  apply Fin.ext
  fin_cases a
  · show 16 * ((i 0).val / 16) + 1 * ((i 0).val % 16) = (i 0).val; omega
  · show 0 + 1 * (i 1).val = (i 1).val; omega

/-! ## At the extended reals -/

section AtIdeal

variable (m : (ℓ : Loc nD τ sig) → Buf (Elt Ideal) ℓ) (ρ : Dev nD → PrngReg)

/-- Device `p`'s input, as extended reals. -/
def inE (p : Dev nD) (i : S256x256.Idx) : EReal := m ((p : Thread nD τ).loc main_arg0) i
/-- Its row block `j`, as extended reals. -/
def blkE (p j : Dev nD) (y : S16x256.Idx) : EReal := blk m ρ p j y

/-- Adding up blocks in turn is the sum over the list. -/
theorem accFrom_sum (c : Dev nD) (y : S16x256.Idx) : ∀ (l : List (Dev nD)) (a : S16x256.Idx → EReal),
    accFrom m ρ c a l y = a y + (l.map fun d => blkE m ρ (peer c d) c y).sum
  | [], a => (add_zero (M := EReal) _).symm
  | d :: l, a => by
    rw [List.map_cons, List.sum_cons, ← add_assoc]
    exact accFrom_sum c y l fun y => a y + blkE m ρ (peer c d) c y

/-- Device `c`'s sum runs over all devices. -/
theorem acc_sum (c : Dev nD) (y : S16x256.Idx) : acc m ρ c y = ∑ p : Dev nD, blkE m ρ p c y := by
  have h0 : peer c 0 = c := by revert c; decide +kernel
  refine (accFrom_sum m ρ c y seqL (blkE m ρ c c)).trans ?_
  rw [← Equiv.sum_comp (Equiv.ofBijective _ (Finite.injective_iff_bijective.mp (peer_inj c))) fun p => blkE m ρ p c y]
  rw [← Finset.add_sum_erase Finset.univ _ (Finset.mem_univ (0 : Dev nD))]
  rw [show Finset.univ.erase (0 : Dev nD) = seqL.toFinset by decide +kernel, List.sum_toFinset _ (by decide)]
  exact congrArg (fun p => blkE m ρ p c y + (seqL.map fun d => blkE m ρ (peer c d) c y).sum) h0.symm

/-- The result is the elementwise sum of the devices' inputs. -/
theorem fin_sum (i : S256x256.Idx) : fin m ρ i = ∑ p : Dev nD, inE m p i :=
  (acc_sum m ρ _ _).trans (Finset.sum_congr rfl fun p _ =>
    (blk_at m ρ p _ _).trans (congrArg (inE m p) (place_parts i)))

end AtIdeal

/-! ## The reference -/

section Reference

/-- What the reference leaves in its result, of the whole array `x`. -/
def refOut (x : Cert.ReferenceIdeal.S4096x256.Idx → EReal) : S256x256.Idx → EReal :=
  Host.reduceAdd (F := Ideal) (φ := .f32) (shapeCast _ x Cert.ReferenceIdeal.Gen.shapeCasts_S4096x256_S16x256x256)
    (constant Cert.ReferenceIdeal.S_ .f32 0x00000000#32) Cert.ReferenceIdeal.Gen.reducesTo_S16x256x256_S256x256_d0 Cert.ReferenceIdeal.Gen.h_S_

/-- The whole array is the devices' arrays one below the other. -/
theorem tiles : Layout.Tiles ⟨2, ![256, 256]⟩ ⟨2, ![4096, 256]⟩ 0 16 := by decide

/-- The reference's result is the sum of the sixteen blocks of the whole array. -/
theorem refOut_sum (x : Cert.ReferenceIdeal.S4096x256.Idx → EReal) (i : S256x256.Idx) :
    refOut x i = ∑ p : Fin 16, x (tiles.idx p i) := by
  refine (Ideal.hostReduceAdd_r3_a0 Cert.ReferenceIdeal.Gen.reducesTo_S16x256x256_S256x256_d0 _ _ i).trans ?_
  rw [show (constant (F := Ideal) Cert.ReferenceIdeal.S_ .f32 0x00000000#32 (Shape.Idx.first Cert.ReferenceIdeal.Gen.h_S_) : EReal) = 0
    from Ideal.ofBits_zero_f32, zero_add]
  refine Finset.sum_congr rfl fun p _ => ?_
  refine shapeCast_apply x _ _ (tiles.idx p i) ?_
  rw [Shape.rowMajor_val_two, Shape.rowMajor_val_three]
  rfl

/-- A sum of devices' inputs that are the blocks of `x` is the sum of the blocks. -/
theorem sum_inE (m : (ℓ : Loc nD τ sig) → Buf (Elt Ideal) ℓ) (ρ : Dev nD → PrngReg) (i : S256x256.Idx)
    (x : Cert.ReferenceIdeal.S4096x256.Idx → EReal) (h : ∀ p : Dev nD, inE m p i = x (tiles.idx p i)) :
    ∑ p : Dev nD, inE m p i = ∑ p : Fin 16, x (tiles.idx p i) := Finset.sum_congr rfl fun p _ => h p

end Reference

end Cert.Exch
-- ==== Proof.Same.lean ====
/- The kernel as printed and the kernel as printed for the extended reals are the same text, so their body tables are one. -/
module

public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F]

/-- The bodies are the same. -/
theorem defs₀_eq : Cert.Kernel.defs₀ (F := F) = Cert.KernelIdeal.defs₀ (F := F) := by
  unfold Cert.Kernel.defs₀ Cert.KernelIdeal.defs₀
  refine congrArg Defs.onTc (funext fun i => funext fun a => ?_)
  obtain rfl : i = 0 := Subsingleton.elim _ _
  exact rfl

/-- So are the body tables with the pipelines added. -/
theorem defs_eq : Cert.Kernel.defs (F := F) = Cert.KernelIdeal.defs (F := F) := by
  unfold Cert.Kernel.defs Cert.KernelIdeal.defs
  exact congrArg (Pipeline.defs _) defs₀_eq

end Cert.Same
-- ==== Proof.lean ====
/- The five claims about the exchange of sixteen devices: the frames of the kernel at bit patterns and at the extended
   reals (one run, Proof/Run.lean), the frame of the reference, and the equality of their results (Proof/Value.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem Cert.Kernel

/-- The run of Proof/Run.lean keeps its argument and leaves every counter at zero, for any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c (0 : Fin 2)).trans (Cert.Exch.finalA_x m ρ c), h.2⟩)
    (Cert.Exch.run_main (F := F) m ρ)

/-- The kernel at bit patterns, whose program is the same text. -/
theorem frame_kernel : Cert.quiescent_Kernel := by
  intro m ρ _
  rw [Cert.Same.defs_eq]
  exact frame_any (F := Bits) m ρ

/-- The kernel at the extended reals. -/
theorem frame_ideal : Cert.quiescent_KernelIdeal := fun m ρ _ => frame_any (F := Ideal) m ρ

/-- The reference keeps its argument; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's: the sum of the sixteen blocks of the whole array. -/
theorem value : Cert.algebraic_KernelIdeal_ReferenceIdeal := by
  intro m ρ m' ρ' _ hagree
  have hv : Cert.Exch.fin m ρ = Cert.Exch.refOut (m' (((0 : Dev Cert.ReferenceIdeal.nD).tc : Thread _ Cert.ReferenceIdeal.τ).loc Cert.ReferenceIdeal.main_arg0)) :=
    funext fun i => (Cert.Exch.fin_sum m ρ i).trans <| (Cert.Exch.sum_inE m ρ i _ fun p => congrFun (hagree p) i).trans
      (Cert.Exch.refOut_sum _ i).symm
  refine ⟨Cert.Exch.fin m ρ, ?_, ?_⟩
  · exact (θ_run Cert.KernelIdeal.defs _ _).mono
      (fun _ h c => ⟨(h.1 c (1 : Fin 2)).trans (Cert.Exch.finalA_out m ρ c), (h.1 c (0 : Fin 2)).trans (Cert.Exch.finalA_x m ρ c)⟩)
      (Cert.Exch.run_main (F := Ideal) m ρ)
  · rw [hv]
    exact (θ_run Cert.ReferenceIdeal.defs _ _).mono (fun _ h => h 0) (Cert.ReferenceIdeal.Value.run (F := Ideal) m' ρ')

/-- The five claims. -/
theorem claim : Cert.Claim := ⟨Cert.Kernel.Gen.facts, Cert.KernelIdeal.Gen.facts, Cert.ReferenceIdeal.Gen.facts,
  frame_kernel, frame_ideal, frame_reference, trivial, value⟩

end Cert.Proof

end
